-- ==== Defs.lean ====
def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite [hPre_finite : Cert.Pre_finite.Facts] (m : (ℓ : Loc Cert.FwdIdeal.nD Cert.FwdIdeal.τ Cert.FwdIdeal.sig) → Buf (Elt Ideal) ℓ) : Prop :=
  ∀ c : Dev Cert.FwdIdeal.nD,
    (Cert.Pre_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite [hPre_finite : Cert.Pre_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6))) = (fun _ => 1#1)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdIdeal_pre_finite [hFwdIdeal : Cert.FwdIdeal.Facts] [hPre_finite : Cert.Pre_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6))
      ∧ r.2.sem = fun _ => 0)

def quiescent_FwdRefIdeal_pre_finite [hFwdRefIdeal : Cert.FwdRefIdeal.Facts] [hPre_finite : Cert.Pre_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6))
      ∧ r.2.sem = fun _ => 0)

def preserves_Grad_GradIdeal : Prop :=
  True

def algebraic_GradIdeal_RefIdeal [hGradIdeal : Cert.GradIdeal.Facts] [hRefIdeal : Cert.RefIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.RefIdeal.nD Cert.RefIdeal.τ Cert.RefIdeal.sig) → Buf (Elt Ideal) ℓ) (g' : Dev Cert.RefIdeal.nD → PrngReg), Pre_GradIdeal m →
    (∀ c : Dev Cert.GradIdeal.nD,
      m' ((c.tc : Thread Cert.RefIdeal.nD Cert.RefIdeal.τ).loc Cert.RefIdeal.main_arg0) = m ((c.tc : Thread Cert.GradIdeal.nD Cert.GradIdeal.τ).loc Cert.GradIdeal.main_arg0)
      ∧ m' ((c.tc : Thread Cert.RefIdeal.nD Cert.RefIdeal.τ).loc Cert.RefIdeal.main_arg1) = m ((c.tc : Thread Cert.GradIdeal.nD Cert.GradIdeal.τ).loc Cert.GradIdeal.main_arg1)
      ∧ m' ((c.tc : Thread Cert.RefIdeal.nD Cert.RefIdeal.τ).loc Cert.RefIdeal.main_arg2) = m ((c.tc : Thread Cert.GradIdeal.nD Cert.GradIdeal.τ).loc Cert.GradIdeal.main_arg2)
      ∧ m' ((c.tc : Thread Cert.RefIdeal.nD Cert.RefIdeal.τ).loc Cert.RefIdeal.main_arg3) = m ((c.tc : Thread Cert.GradIdeal.nD Cert.GradIdeal.τ).loc Cert.GradIdeal.main_arg3)
      ∧ m' ((c.tc : Thread Cert.RefIdeal.nD Cert.RefIdeal.τ).loc Cert.RefIdeal.main_arg4) = m ((c.tc : Thread Cert.GradIdeal.nD Cert.GradIdeal.τ).loc Cert.GradIdeal.main_arg4)) →
    ∃ (v0 : (c : Dev Cert.GradIdeal.nD) → Buf (Elt Ideal) ((c.tc : Thread Cert.GradIdeal.nD Cert.GradIdeal.τ).loc Cert.GradIdeal.main_v0_0)) (v1 : (c : Dev Cert.GradIdeal.nD) → Buf (Elt Ideal) ((c.tc : Thread Cert.GradIdeal.nD Cert.GradIdeal.τ).loc Cert.GradIdeal.main_v0_1)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v0_0) = v0 c
          ∧ r.2.mem ((c.tc : Thread Cert.GradIdeal.nD Cert.GradIdeal.τ).loc Cert.GradIdeal.main_v0_1) = v1 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v41) = v0 c
          ∧ r.2.mem ((c.tc : Thread Cert.RefIdeal.nD Cert.RefIdeal.τ).loc Cert.RefIdeal.main_v43) = v1 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4))

def preserves_Fwd_FwdIdeal : Prop :=
  IdealRules.named_const.Statement Cert.FwdIdeal.κ "mask" .f32 0xFF61B1E6#32 ⊥

def algebraic_FwdIdeal_FwdRefIdeal_pre_finite [hFwdIdeal : Cert.FwdIdeal.Facts] [hFwdRefIdeal : Cert.FwdRefIdeal.Facts] [hPre_finite : Cert.Pre_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)) →
    ∃ (v0 : (c : Dev Cert.FwdIdeal.nD) → Buf (Elt Ideal) ((c.tc : Thread Cert.FwdIdeal.nD Cert.FwdIdeal.τ).loc Cert.FwdIdeal.main_v80)) (v1 : (c : Dev Cert.FwdIdeal.nD) → Buf (Elt Ideal) ((c.tc : Thread Cert.FwdIdeal.nD Cert.FwdIdeal.τ).loc Cert.FwdIdeal.main_v82)) (v2 : (c : Dev Cert.FwdIdeal.nD) → Buf (Elt Ideal) ((c.tc : Thread Cert.FwdIdeal.nD Cert.FwdIdeal.τ).loc Cert.FwdIdeal.main_v77_1)) (v3 : (c : Dev Cert.FwdIdeal.nD) → Buf (Elt Ideal) ((c.tc : Thread Cert.FwdIdeal.nD Cert.FwdIdeal.τ).loc Cert.FwdIdeal.main_v77_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v80) = v0 c
          ∧ r.2.mem ((c.tc : Thread Cert.FwdIdeal.nD Cert.FwdIdeal.τ).loc Cert.FwdIdeal.main_v82) = v1 c
          ∧ r.2.mem ((c.tc : Thread Cert.FwdIdeal.nD Cert.FwdIdeal.τ).loc Cert.FwdIdeal.main_v77_1) = v2 c
          ∧ r.2.mem ((c.tc : Thread Cert.FwdIdeal.nD Cert.FwdIdeal.τ).loc Cert.FwdIdeal.main_v77_2) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v94) = v0 c
          ∧ r.2.mem ((c.tc : Thread Cert.FwdRefIdeal.nD Cert.FwdRefIdeal.τ).loc Cert.FwdRefIdeal.main_v79) = v1 c
          ∧ r.2.mem ((c.tc : Thread Cert.FwdRefIdeal.nD Cert.FwdRefIdeal.τ).loc Cert.FwdRefIdeal.main_v89) = v2 c
          ∧ r.2.mem ((c.tc : Thread Cert.FwdRefIdeal.nD Cert.FwdRefIdeal.τ).loc Cert.FwdRefIdeal.main_v93) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6))

def Claim : Prop :=
  ∃ (hGrad : Cert.Grad.Facts) (hGradIdeal : Cert.GradIdeal.Facts) (hRefIdeal : Cert.RefIdeal.Facts) (hFwd : Cert.Fwd.Facts) (hFwdIdeal : Cert.FwdIdeal.Facts) (hFwdRefIdeal : Cert.FwdRefIdeal.Facts) (hPre_finite : Cert.Pre_finite.Facts),
    quiescent_Grad (hGrad := hGrad)
    ∧ quiescent_GradIdeal (hGradIdeal := hGradIdeal)
    ∧ quiescent_RefIdeal (hRefIdeal := hRefIdeal)
    ∧ quiescent_Fwd (hFwd := hFwd)
    ∧ quiescent_FwdIdeal (hFwdIdeal := hFwdIdeal)
    ∧ quiescent_FwdIdeal_pre_finite (hFwdIdeal := hFwdIdeal) (hPre_finite := hPre_finite)
    ∧ quiescent_FwdRefIdeal (hFwdRefIdeal := hFwdRefIdeal)
    ∧ quiescent_FwdRefIdeal_pre_finite (hFwdRefIdeal := hFwdRefIdeal) (hPre_finite := hPre_finite)
    ∧ preserves_Grad_GradIdeal
    ∧ algebraic_GradIdeal_RefIdeal (hGradIdeal := hGradIdeal) (hRefIdeal := hRefIdeal)
    ∧ preserves_Fwd_FwdIdeal
    ∧ algebraic_FwdIdeal_FwdRefIdeal_pre_finite (hFwdIdeal := hFwdIdeal) (hFwdRefIdeal := hFwdRefIdeal) (hPre_finite := hPre_finite)
-- ==== Pre_finite.lean ====
abbrev S12x128x1280 : Shape := ⟨3, ![12, 128, 1280]⟩
abbrev S50257x1280 : Shape := ⟨2, ![50257, 1280]⟩
abbrev S50257 : Shape := ⟨1, ![50257]⟩
abbrev S16384 : Shape := ⟨1, ![16384]⟩
abbrev S12x128 : Shape := ⟨2, ![12, 128]⟩
abbrev S_ : Shape := ⟨0, ![]⟩
abbrev S16384x1 : Shape := ⟨2, ![16384, 1]⟩

class Facts : Prop where
  bcast_S_S12x128x1280 : S_.BroadcastsInDim S12x128x1280 (![] : Fin 0 → Fin S12x128x1280.rank)
  reducesTo_S12x128x1280_S_d0_1_2 : S12x128x1280.ReducesTo [0, 1, 2] S_
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  reducesTo_S16384_S_d0 : S16384.ReducesTo [0] S_
  gather_S50257_S16384x1_S16384_n_0_n_n_0_1_1_wf : GatherDims.WF S50257 S16384x1 S16384 [] [0] [] [0] [] 1 ![1]

variable [Facts]

def gather_S50257_S16384x1_S16384_n_0_n_n_0_1_1 : GatherDims S50257 S16384x1 S16384 where
  offsetDims := []
  collapsedSliceDims := [0]
  operandBatchingDims := []
  startIndicesBatchingDims := []
  startIndexMap := [0]
  indexVectorDim := 1
  sliceSizes := ![1]
  wf := gather_S50257_S16384x1_S16384_n_0_n_n_0_1_1_wf
def fn_part1 {F : FTy → Type} [FloatOps F] (main_arg3 : FVec F S50257 .f32) (main_arg4 : IVec S16384 32) (main_v15 : IVec S_ 1) (main_v16 : IVec S16384 32) : IVec S_ 1 :=
  let main_v17 : IVec S16384 1 := cmpi .slt main_arg4 main_v16
  let main_c_5 : IVec S_ 32 := constantI S_ 32 50257#32
  let main_v18 : IVec S16384 32 := broadcastInDim S16384 ![] bcast_S_S16384 main_c_5
  let main_v19 : IVec S16384 32 := addi main_arg4 main_v18
  let main_v20 : IVec S16384 32 := select main_v17 main_v19 main_arg4
  let main_v21 : IVec S16384x1 32 := broadcastInDim S16384x1 ![0] bcast_S16384_S16384x1_0 main_v20
  let main_v22 : FVec F S16384 .f32 := (fun x i => Host.gather gather_S50257_S16384x1_S16384_n_0_n_n_0_1_1 x i) main_arg3 main_v21
  let main_v23 : FVec F S16384 .f32 := Host.absf main_v22
  let main_cst_6 : FVec F S_ .f32 := constant S_ .f32 0x7F800000#32
  let main_v24 : FVec F S16384 .f32 := broadcastInDim S16384 ![] bcast_S_S16384 main_cst_6
  let main_v25 : IVec S16384 1 := cmpf .olt main_v23 main_v24
  let main_c_7 : IVec S_ 1 := constantI S_ 1 1#1
  let main_v26 : IVec S_ 1 := (fun x v => Host.reduce IntOp.andi x v reducesTo_S16384_S_d0 h_S_) main_v25 main_c_7
  let main_v27 : IVec S_ 1 := andi main_v15 main_v26
  main_v27

def fn {F : FTy → Type} [FloatOps F] (main_arg0 : FVec F S12x128x1280 .bf16) (main_arg1 : IVec S50257x1280 8) (main_arg2 : FVec F S50257 .f32) (main_arg3 : FVec F S50257 .f32) (main_arg4 : IVec S16384 32) (main_arg5 : IVec S12x128 32) (main_arg6 : FVec F S12x128 .f32) : IVec S_ 1 :=
  let main_v0 : FVec F S12x128x1280 .bf16 := Host.absf main_arg0
  let main_cst : FVec F S_ .bf16 := constant S_ .bf16 0x7F80#16
  let main_v1 : FVec F S12x128x1280 .bf16 := broadcastInDim S12x128x1280 ![] bcast_S_S12x128x1280 main_cst
  let main_v2 : IVec S12x128x1280 1 := cmpf .olt main_v0 main_v1
  let main_c : IVec S_ 1 := constantI S_ 1 1#1
  let main_v3 : IVec S_ 1 := (fun x v => Host.reduce IntOp.andi x v reducesTo_S12x128x1280_S_d0_1_2 h_S_) main_v2 main_c
  let main_c_0 : IVec S_ 32 := constantI S_ 32 0#32
  let main_v4 : IVec S16384 32 := broadcastInDim S16384 ![] bcast_S_S16384 main_c_0
  let main_v5 : IVec S16384 1 := cmpi .slt main_arg4 main_v4
  let main_c_1 : IVec S_ 32 := constantI S_ 32 50257#32
  let main_v6 : IVec S16384 32 := broadcastInDim S16384 ![] bcast_S_S16384 main_c_1
  let main_v7 : IVec S16384 32 := addi main_arg4 main_v6
  let main_v8 : IVec S16384 32 := select main_v5 main_v7 main_arg4
  let main_v9 : IVec S16384x1 32 := broadcastInDim S16384x1 ![0] bcast_S16384_S16384x1_0 main_v8
  let main_v10 : FVec F S16384 .f32 := (fun x i => Host.gather gather_S50257_S16384x1_S16384_n_0_n_n_0_1_1 x i) main_arg2 main_v9
  let main_v11 : FVec F S16384 .f32 := Host.absf main_v10
  let main_cst_2 : FVec F S_ .f32 := constant S_ .f32 0x7F800000#32
  let main_v12 : FVec F S16384 .f32 := broadcastInDim S16384 ![] bcast_S_S16384 main_cst_2
  let main_v13 : IVec S16384 1 := cmpf .olt main_v11 main_v12
  let main_c_3 : IVec S_ 1 := constantI S_ 1 1#1
  let main_v14 : IVec S_ 1 := (fun x v => Host.reduce IntOp.andi x v reducesTo_S16384_S_d0 h_S_) main_v13 main_c_3
  let main_v15 : IVec S_ 1 := andi main_v3 main_v14
  let main_c_4 : IVec S_ 32 := constantI S_ 32 0#32
  let main_v16 : IVec S16384 32 := broadcastInDim S16384 ![] bcast_S_S16384 main_c_4
  fn_part1 (F := F) main_arg3 main_arg4 main_v15 main_v16
-- ==== Grad.lean ====
abbrev S8x16384 : Shape := ⟨2, ![8, 16384]⟩
abbrev S16384x1280 : Shape := ⟨2, ![16384, 1280]⟩
abbrev S1536x1280 : Shape := ⟨2, ![1536, 1280]⟩
abbrev S8x1536 : Shape := ⟨2, ![8, 1536]⟩
abbrev S8x512 : Shape := ⟨2, ![8, 512]⟩
abbrev S512x1280 : Shape := ⟨2, ![512, 1280]⟩
abbrev S512x1536 : Shape := ⟨2, ![512, 1536]⟩
abbrev S512x8 : Shape := ⟨2, ![512, 8]⟩
abbrev S512x1 : Shape := ⟨2, ![512, 1]⟩
abbrev S512x256 : Shape := ⟨2, ![512, 256]⟩
abbrev S256x1280 : Shape := ⟨2, ![256, 1280]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S8x16384, .f32⟩
  | .hbm, ⟨1, _⟩ => ⟨S16384x1280, .i8⟩
  | .hbm, ⟨2, _⟩ => ⟨S1536x1280, .bf16⟩
  | .hbm, ⟨3, _⟩ => ⟨S8x1536, .f32⟩
  | .hbm, ⟨4, _⟩ => ⟨S1536x1280, .f32⟩
  | .hbm, ⟨5, _⟩ => ⟨S16384x1280, .f32⟩
  | .hbm, ⟨6, _⟩ => ⟨S1536x1280, .bf16⟩
  | .local _ .vmem, ⟨0, _⟩ => ⟨S8x512, .f32⟩
  | .local _ .vmem, ⟨1, _⟩ => ⟨S8x512, .f32⟩
  | .local _ .vmem, ⟨2, _⟩ => ⟨S512x1280, .i8⟩
  | .local _ .vmem, ⟨3, _⟩ => ⟨S512x1280, .i8⟩
  | .local _ .vmem, ⟨4, _⟩ => ⟨S1536x1280, .bf16⟩
  | .local _ .vmem, ⟨5, _⟩ => ⟨S8x1536, .f32⟩
  | .local _ .vmem, ⟨6, _⟩ => ⟨S1536x1280, .f32⟩
  | .local _ .vmem, ⟨7, _⟩ => ⟨S512x1280, .f32⟩
  | .local _ .vmem, ⟨8, _⟩ => ⟨S512x1280, .f32⟩
  | .local _ .vmem, ⟨9, _⟩ => ⟨S1536x1280, .bf16⟩
  | .local _ .vmem, ⟨10, _⟩ => ⟨S512x1280, .bf16⟩
  | .local _ .vmem, ⟨11, _⟩ => ⟨S512x1536, .bf16⟩
  | .local _ .vmem, ⟨12, _⟩ => ⟨S1536x1280, .f32⟩
  | _, _ => ⟨S8x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v203 : BitVec 1 := Scalar.cmpi .eq arg0 c31_i32
  let v204 : BitVec 32 := Scalar.extui v203
  let c0_i32_131 : BitVec 32 := 0#32
  let v205 : BitVec 1 := Scalar.cmpi .ne v204 c0_i32_131
  v205

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefIdeal.lean ====
abbrev S8x16384 : Shape := ⟨2, ![8, 16384]⟩
abbrev S16384x1280 : Shape := ⟨2, ![16384, 1280]⟩
abbrev S1536x1280 : Shape := ⟨2, ![1536, 1280]⟩
abbrev S8x1536 : Shape := ⟨2, ![8, 1536]⟩
abbrev S1x16384 : Shape := ⟨2, ![1, 16384]⟩
abbrev S16384 : Shape := ⟨1, ![16384]⟩
abbrev S1x1536 : Shape := ⟨2, ![1, 1536]⟩
abbrev S1536 : Shape := ⟨1, ![1536]⟩
abbrev S1536x16384 : Shape := ⟨2, ![1536, 16384]⟩
abbrev S1536x1 : Shape := ⟨2, ![1536, 1]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8x16384, .f32⟩
  | .hbm, ⟨1, _⟩ => ⟨S16384x1280, .i8⟩
  | .hbm, ⟨2, _⟩ => ⟨S1536x1280, .bf16⟩
  | .hbm, ⟨3, _⟩ => ⟨S8x1536, .f32⟩
  | .hbm, ⟨4, _⟩ => ⟨S1536x1280, .f32⟩
  | .hbm, ⟨5, _⟩ => ⟨S1x16384, .f32⟩
  | .hbm, ⟨6, _⟩ => ⟨S16384, .f32⟩
  | .hbm, ⟨7, _⟩ => ⟨S1x16384, .f32⟩
  | .hbm, ⟨8, _⟩ => ⟨S16384, .f32⟩
  | .hbm, ⟨9, _⟩ => ⟨S1x16384, .f32⟩
  | .hbm, ⟨10, _⟩ => ⟨S16384, .f32⟩
  | .hbm, ⟨11, _⟩ => ⟨S1x1536, .f32⟩
  | .hbm, ⟨12, _⟩ => ⟨S1536, .f32⟩
  | .hbm, ⟨13, _⟩ => ⟨S1x1536, .f32⟩
  | .hbm, ⟨14, _⟩ => ⟨S1536, .f32⟩
  | .hbm, ⟨15, _⟩ => ⟨S1x1536, .f32⟩
  | .hbm, ⟨16, _⟩ => ⟨S1536, .f32⟩
  | .hbm, ⟨17, _⟩ => ⟨S16384x1280, .i32⟩
  | .hbm, ⟨18, _⟩ => ⟨S16384x1280, .f32⟩
  | .hbm, ⟨19, _⟩ => ⟨S16384x1280, .bf16⟩
  | .hbm, ⟨20, _⟩ => ⟨S1536x16384, .f32⟩
  | .hbm, ⟨21, _⟩ => ⟨S1536x1, .f32⟩
  | .hbm, ⟨22, _⟩ => ⟨S1x16384, .f32⟩
  | .hbm, ⟨23, _⟩ => ⟨S1536x16384, .f32⟩
  | .hbm, ⟨24, _⟩ => ⟨S1536x16384, .f32⟩
  | .hbm, ⟨25, _⟩ => ⟨S1536x16384, .i1⟩
  | .hbm, ⟨26, _⟩ => ⟨S1x16384, .f32⟩
  | .hbm, ⟨27, _⟩ => ⟨S1536x16384, .f32⟩
  | .hbm, ⟨28, _⟩ => ⟨S1536x16384, .f32⟩
  | .hbm, ⟨29, _⟩ => ⟨S1x16384, .f32⟩
  | .hbm, ⟨30, _⟩ => ⟨S1536x16384, .f32⟩
  | .hbm, ⟨31, _⟩ => ⟨S1536x16384, .f32⟩
  | .hbm, ⟨32, _⟩ => ⟨S_, .f32⟩
  | .hbm, ⟨33, _⟩ => ⟨S_, .f32⟩
  | .hbm, ⟨34, _⟩ => ⟨S1536x16384, .f32⟩
  | .hbm, ⟨35, _⟩ => ⟨S1536x16384, .f32⟩
  | .hbm, ⟨36, _⟩ => ⟨S1536x1, .f32⟩
  | .hbm, ⟨37, _⟩ => ⟨S1536x16384, .f32⟩
  | .hbm, ⟨38, _⟩ => ⟨S1536x16384, .f32⟩
  | .hbm, ⟨39, _⟩ => ⟨S1536x16384, .f32⟩
  | .hbm, ⟨40, _⟩ => ⟨S1536x1, .f32⟩
  | .hbm, ⟨41, _⟩ => ⟨S1536x16384, .f32⟩
  | .hbm, ⟨42, _⟩ => ⟨S1536x16384, .f32⟩
  | .hbm, ⟨43, _⟩ => ⟨S1x16384, .f32⟩
  | .hbm, ⟨44, _⟩ => ⟨S1536x16384, .f32⟩
  | .hbm, ⟨45, _⟩ => ⟨S1536x16384, .f32⟩
  | .hbm, ⟨46, _⟩ => ⟨S1536x16384, .bf16⟩
  | .hbm, ⟨47, _⟩ => ⟨S1536x1280, .f32⟩
  | .hbm, ⟨48, _⟩ => ⟨S1536x16384, .bf16⟩
  | .hbm, ⟨49, _⟩ => ⟨S16384x1280, .f32⟩
  | .hbm, ⟨50, _⟩ => ⟨S1536x1280, .f32⟩
  | .hbm, ⟨51, _⟩ => ⟨S1536x1280, .bf16⟩
  | _, _ => ⟨S8x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Fwd.lean ====
abbrev S12x128x1280 : Shape := ⟨3, ![12, 128, 1280]⟩
abbrev S50257x1280 : Shape := ⟨2, ![50257, 1280]⟩
abbrev S50257 : Shape := ⟨1, ![50257]⟩
abbrev S16384 : Shape := ⟨1, ![16384]⟩
abbrev S12x128 : Shape := ⟨2, ![12, 128]⟩
abbrev S1536x1280 : Shape := ⟨2, ![1536, 1280]⟩
abbrev S1536 : Shape := ⟨1, ![1536]⟩
abbrev S_ : Shape := ⟨0, ![]⟩
abbrev S16384x1 : Shape := ⟨2, ![16384, 1]⟩
abbrev S16384x1280 : Shape := ⟨2, ![16384, 1280]⟩
abbrev S1536x1 : Shape := ⟨2, ![1536, 1]⟩
abbrev S1x16384 : Shape := ⟨2, ![1, 16384]⟩
abbrev S8x16384 : Shape := ⟨2, ![8, 16384]⟩
abbrev S1x1536 : Shape := ⟨2, ![1, 1536]⟩
abbrev S8x1536 : Shape := ⟨2, ![8, 1536]⟩
abbrev S2x8x1536 : Shape := ⟨3, ![2, 8, 1536]⟩
abbrev S8x512 : Shape := ⟨2, ![8, 512]⟩
abbrev S512x1280 : Shape := ⟨2, ![512, 1280]⟩
abbrev S1x8x1536 : Shape := ⟨3, ![1, 8, 1536]⟩
abbrev S512x8 : Shape := ⟨2, ![512, 8]⟩
abbrev S512x1 : Shape := ⟨2, ![512, 1]⟩
abbrev S512x256 : Shape := ⟨2, ![512, 256]⟩
abbrev S256x1280 : Shape := ⟨2, ![256, 1280]⟩
abbrev S1x256 : Shape := ⟨2, ![1, 256]⟩
abbrev S64x8x256 : Shape := ⟨3, ![64, 8, 256]⟩
abbrev S1x8x256 : Shape := ⟨3, ![1, 8, 256]⟩
abbrev S8x256 : Shape := ⟨2, ![8, 256]⟩
abbrev S1536x128 : Shape := ⟨2, ![1536, 128]⟩
abbrev S128x1536 : Shape := ⟨2, ![128, 1536]⟩
abbrev S6x1536 : Shape := ⟨2, ![6, 1536]⟩

abbrev nBuf : Space → Nat
  | .hbm => 106
  | .vmem => 15
  | .smem => 0
  | _ => 0

abbrev bufTy : (tb : Table) → Fin (tcTables nBuf tb) → BufTy
  | .hbm, ⟨0, _⟩ => ⟨S12x128x1280, .bf16⟩
  | .hbm, ⟨1, _⟩ => ⟨S50257x1280, .i8⟩
  | .hbm, ⟨2, _⟩ => ⟨S50257, .f32⟩
  | .hbm, ⟨3, _⟩ => ⟨S50257, .f32⟩
  | .hbm, ⟨4, _⟩ => ⟨S16384, .i32⟩
  | .hbm, ⟨5, _⟩ => ⟨S12x128, .i32⟩
  | .hbm, ⟨6, _⟩ => ⟨S12x128, .f32⟩
  | .hbm, ⟨7, _⟩ => ⟨S1536x1280, .bf16⟩
  | .hbm, ⟨8, _⟩ => ⟨S1536, .i32⟩
  | .hbm, ⟨9, _⟩ => ⟨S1536, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x1280, .i8⟩
  | .hbm, ⟨19, _⟩ => ⟨S_, .i32⟩
  | .hbm, ⟨20, _⟩ => ⟨S1536, .i32⟩
  | .hbm, ⟨21, _⟩ => ⟨S1536, .i1⟩
  | .hbm, ⟨22, _⟩ => ⟨S_, .i32⟩
  | .hbm, ⟨23, _⟩ => ⟨S1536, .i32⟩
  | .hbm, ⟨24, _⟩ => ⟨S1536, .i32⟩
  | .hbm, ⟨25, _⟩ => ⟨S1536, .i32⟩
  | .hbm, ⟨26, _⟩ => ⟨S1536x1, .i32⟩
  | .hbm, ⟨27, _⟩ => ⟨S1536x1280, .i8⟩
  | .hbm, ⟨28, _⟩ => ⟨S_, .f32⟩
  | .hbm, ⟨29, _⟩ => ⟨S16384, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384, .f32⟩
  | .hbm, ⟨48, _⟩ => ⟨S16384, .f32⟩
  | .hbm, ⟨49, _⟩ => ⟨S1x16384, .f32⟩
  | .hbm, ⟨50, _⟩ => ⟨S1x16384, .f32⟩
  | .hbm, ⟨51, _⟩ => ⟨S1x16384, .f32⟩
  | .hbm, ⟨52, _⟩ => ⟨S1x16384, .f32⟩
  | .hbm, ⟨53, _⟩ => ⟨S1x16384, .f32⟩
  | .hbm, ⟨54, _⟩ => ⟨S1x16384, .f32⟩
  | .hbm, ⟨55, _⟩ => ⟨S1x16384, .f32⟩
  | .hbm, ⟨56, _⟩ => ⟨S1x16384, .f32⟩
  | .hbm, ⟨57, _⟩ => ⟨S8x16384, .f32⟩
  | .hbm, ⟨58, _⟩ => ⟨S1536, .f32⟩
  | .hbm, ⟨59, _⟩ => ⟨S_, .f32⟩
  | .hbm, ⟨60, _⟩ => ⟨S1536, .f32⟩
  | .hbm, ⟨61, _⟩ => ⟨S1x1536, .f32⟩
  | .hbm, ⟨62, _⟩ => ⟨S1x1536, .f32⟩
  | .hbm, ⟨63, _⟩ => ⟨S1x1536, .f32⟩
  | .hbm, ⟨64, _⟩ => ⟨S1x1536, .f32⟩
  | .hbm, ⟨65, _⟩ => ⟨S1x1536, .f32⟩
  | .hbm, ⟨66, _⟩ => ⟨S1x1536, .f32⟩
  | .hbm, ⟨67, _⟩ => ⟨S1x1536, .f32⟩
  | .hbm, ⟨68, _⟩ => ⟨S1x1536, .f32⟩
  | .hbm, ⟨69, _⟩ => ⟨S8x1536, .f32⟩
  | .hbm, ⟨70, _⟩ => ⟨S2x8x1536, .f32⟩
  | .hbm, ⟨71, _⟩ => ⟨S_, .i32⟩
  | .hbm, ⟨72, _⟩ => ⟨S1536, .i32⟩
  | .hbm, ⟨73, _⟩ => ⟨S1536, .i1⟩
  | .hbm, ⟨74, _⟩ => ⟨S_, .i32⟩
  | .hbm, ⟨75, _⟩ => ⟨S1536, .i32⟩
  | .hbm, ⟨76, _⟩ => ⟨S1536, .i32⟩
  | .hbm, ⟨77, _⟩ => ⟨S1536, .i32⟩
  | .hbm, ⟨78, _⟩ => ⟨S1536x1, .i32⟩
  | .hbm, ⟨79, _⟩ => ⟨S1536, .f32⟩
  | .hbm, ⟨80, _⟩ => ⟨S_, .i32⟩
  | .hbm, ⟨81, _⟩ => ⟨S1536, .i32⟩
  | .hbm, ⟨82, _⟩ => ⟨S1536, .i1⟩
  | .hbm, ⟨83, _⟩ => ⟨S_, .i32⟩
  | .hbm, ⟨84, _⟩ => ⟨S1536, .i32⟩
  | .hbm, ⟨85, _⟩ => ⟨S1536, .i32⟩
  | .hbm, ⟨86, _⟩ => ⟨S1536, .i32⟩
  | .hbm, ⟨87, _⟩ => ⟨S1536x1, .i32⟩
  | .hbm, ⟨88, _⟩ => ⟨S1536, .f32⟩
  | .hbm, ⟨89, _⟩ => ⟨S1x1536, .f32⟩
  | .hbm, ⟨90, _⟩ => ⟨S1x1536, .f32⟩
  | .hbm, ⟨91, _⟩ => ⟨S1x1536, .f32⟩
  | .hbm, ⟨92, _⟩ => ⟨S1x1536, .f32⟩
  | .hbm, ⟨93, _⟩ => ⟨S1x1536, .f32⟩
  | .hbm, ⟨94, _⟩ => ⟨S1x1536, .f32⟩
  | .hbm, ⟨95, _⟩ => ⟨S1x1536, .f32⟩
  | .hbm, ⟨96, _⟩ => ⟨S1x1536, .f32⟩
  | .hbm, ⟨97, _⟩ => ⟨S8x1536, .f32⟩
  | .hbm, ⟨98, _⟩ => ⟨S8x1536, .f32⟩
  | .hbm, ⟨99, _⟩ => ⟨S1536x1280, .f32⟩
  | .hbm, ⟨100, _⟩ => ⟨S1536x1280, .f32⟩
  | .hbm, ⟨101, _⟩ => ⟨S1x1536, .f32⟩
  | .hbm, ⟨102, _⟩ => ⟨S1536, .f32⟩
  | .hbm, ⟨103, _⟩ => ⟨S12x128, .f32⟩
  | .hbm, ⟨104, _⟩ => ⟨S1x1536, .f32⟩
  | .hbm, ⟨105, _⟩ => ⟨S1536, .f32⟩
  | .local _ .vmem, ⟨0, _⟩ => ⟨S8x512, .f32⟩
  | .local _ .vmem, ⟨1, _⟩ => ⟨S8x512, .f32⟩
  | .local _ .vmem, ⟨2, _⟩ => ⟨S512x1280, .i8⟩
  | .local _ .vmem, ⟨3, _⟩ => ⟨S512x1280, .i8⟩
  | .local _ .vmem, ⟨4, _⟩ => ⟨S1536x1280, .bf16⟩
  | .local _ .vmem, ⟨5, _⟩ => ⟨S8x1536, .f32⟩
  | .local _ .vmem, ⟨6, _⟩ => ⟨S2x8x1536, .f32⟩
  | .local _ .vmem, ⟨7, _⟩ => ⟨S512x1280, .bf16⟩
  | .local _ .vmem, ⟨8, _⟩ => ⟨S2x8x1536, .f32⟩
  | .local _ .vmem, ⟨9, _⟩ => ⟨S8x1536, .f32⟩
  | .local _ .vmem, ⟨10, _⟩ => ⟨S1536x1280, .bf16⟩
  | .local _ .vmem, ⟨11, _⟩ => ⟨S1536x1280, .i8⟩
  | .local _ .vmem, ⟨12, _⟩ => ⟨S8x1536, .f32⟩
  | .local _ .vmem, ⟨13, _⟩ => ⟨S1536x1280, .f32⟩
  | .local _ .vmem, ⟨14, _⟩ => ⟨S1536x1280, .f32⟩
  | _, _ => ⟨S12x128x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_10 : Ref sig .tc := ⟨.hbm, 80, rfl⟩
abbrev main_v61 : Ref sig .tc := ⟨.hbm, 81, rfl⟩
abbrev main_v62 : Ref sig .tc := ⟨.hbm, 82, rfl⟩
abbrev main_c_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77_0 : Ref sig .tc := ⟨.hbm, 98, rfl⟩
abbrev main_v77_1 : Ref sig .tc := ⟨.hbm, 99, rfl⟩
abbrev main_v77_2 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S2x8x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1536x1280 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1536x1280 .i8 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1536x1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1536x1280 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== FwdIdeal.lean ====
variable {F : FTy → Type} [FloatOps F] [Named F]
def κ : String → Option EReal := fun
  | "mask" => some ⊥
  | _ => none
-- ==== FwdRefIdeal.lean ====
abbrev S12x128x1280 : Shape := ⟨3, ![12, 128, 1280]⟩
abbrev S50257x1280 : Shape := ⟨2, ![50257, 1280]⟩
abbrev S50257 : Shape := ⟨1, ![50257]⟩
abbrev S16384 : Shape := ⟨1, ![16384]⟩
abbrev S12x128 : Shape := ⟨2, ![12, 128]⟩
abbrev S1536x1280 : Shape := ⟨2, ![1536, 1280]⟩
abbrev S1536 : Shape := ⟨1, ![1536]⟩
abbrev S_ : Shape := ⟨0, ![]⟩
abbrev S16384x1 : Shape := ⟨2, ![16384, 1]⟩
abbrev S16384x1280 : Shape := ⟨2, ![16384, 1280]⟩
abbrev S1536x1 : Shape := ⟨2, ![1536, 1]⟩
abbrev S1536x16384 : Shape := ⟨2, ![1536, 16384]⟩
abbrev S1x16384 : Shape := ⟨2, ![1, 16384]⟩

abbrev nBuf : Space → Nat
  | .hbm => 119
  | .vmem => 0
  | .smem => 0
  | _ => 0

abbrev bufTy : (tb : Table) → Fin (tcTables nBuf tb) → BufTy
  | .hbm, ⟨0, _⟩ => ⟨S12x128x1280, .bf16⟩
  | .hbm, ⟨1, _⟩ => ⟨S50257x1280, .i8⟩
  | .hbm, ⟨2, _⟩ => ⟨S50257, .f32⟩
  | .hbm, ⟨3, _⟩ => ⟨S50257, .f32⟩
  | .hbm, ⟨4, _⟩ => ⟨S16384, .i32⟩
  | .hbm, ⟨5, _⟩ => ⟨S12x128, .i32⟩
  | .hbm, ⟨6, _⟩ => ⟨S12x128, .f32⟩
  | .hbm, ⟨7, _⟩ => ⟨S1536x1280, .bf16⟩
  | .hbm, ⟨8, _⟩ => ⟨S1536, .i32⟩
  | .hbm, ⟨9, _⟩ => ⟨S1536, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x1280, .i8⟩
  | .hbm, ⟨19, _⟩ => ⟨S16384x1280, .i32⟩
  | .hbm, ⟨20, _⟩ => ⟨S16384x1280, .f32⟩
  | .hbm, ⟨21, _⟩ => ⟨S16384x1280, .bf16⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384, .f32⟩
  | .hbm, ⟨40, _⟩ => ⟨S_, .i32⟩
  | .hbm, ⟨41, _⟩ => ⟨S1536, .i32⟩
  | .hbm, ⟨42, _⟩ => ⟨S1536, .i1⟩
  | .hbm, ⟨43, _⟩ => ⟨S_, .i32⟩
  | .hbm, ⟨44, _⟩ => ⟨S1536, .i32⟩
  | .hbm, ⟨45, _⟩ => ⟨S1536, .i32⟩
  | .hbm, ⟨46, _⟩ => ⟨S1536, .i32⟩
  | .hbm, ⟨47, _⟩ => ⟨S1536x1, .i32⟩
  | .hbm, ⟨48, _⟩ => ⟨S1536x1280, .i8⟩
  | .hbm, ⟨49, _⟩ => ⟨S1536x1280, .i32⟩
  | .hbm, ⟨50, _⟩ => ⟨S1536x1280, .f32⟩
  | .hbm, ⟨51, _⟩ => ⟨S_, .i32⟩
  | .hbm, ⟨52, _⟩ => ⟨S1536, .i32⟩
  | .hbm, ⟨53, _⟩ => ⟨S1536, .i1⟩
  | .hbm, ⟨54, _⟩ => ⟨S_, .i32⟩
  | .hbm, ⟨55, _⟩ => ⟨S1536, .i32⟩
  | .hbm, ⟨56, _⟩ => ⟨S1536, .i32⟩
  | .hbm, ⟨57, _⟩ => ⟨S1536, .i32⟩
  | .hbm, ⟨58, _⟩ => ⟨S1536x1, .i32⟩
  | .hbm, ⟨59, _⟩ => ⟨S1536, .f32⟩
  | .hbm, ⟨60, _⟩ => ⟨S_, .i32⟩
  | .hbm, ⟨61, _⟩ => ⟨S1536, .i32⟩
  | .hbm, ⟨62, _⟩ => ⟨S1536, .i1⟩
  | .hbm, ⟨63, _⟩ => ⟨S_, .i32⟩
  | .hbm, ⟨64, _⟩ => ⟨S1536, .i32⟩
  | .hbm, ⟨65, _⟩ => ⟨S1536, .i32⟩
  | .hbm, ⟨66, _⟩ => ⟨S1536, .i32⟩
  | .hbm, ⟨67, _⟩ => ⟨S1536x1, .i32⟩
  | .hbm, ⟨68, _⟩ => ⟨S1536, .f32⟩
  | .hbm, ⟨69, _⟩ => ⟨S1536x16384, .f32⟩
  | .hbm, ⟨70, _⟩ => ⟨S1536x1, .i32⟩
  | .hbm, ⟨71, _⟩ => ⟨S1x16384, .i32⟩
  | .hbm, ⟨72, _⟩ => ⟨S1536x16384, .i32⟩
  | .hbm, ⟨73, _⟩ => ⟨S1536x16384, .i32⟩
  | .hbm, ⟨74, _⟩ => ⟨S1536x16384, .i1⟩
  | .hbm, ⟨75, _⟩ => ⟨S1x16384, .f32⟩
  | .hbm, ⟨76, _⟩ => ⟨S1536x16384, .f32⟩
  | .hbm, ⟨77, _⟩ => ⟨S1536x16384, .f32⟩
  | .hbm, ⟨78, _⟩ => ⟨S1x16384, .f32⟩
  | .hbm, ⟨79, _⟩ => ⟨S1536x16384, .f32⟩
  | .hbm, ⟨80, _⟩ => ⟨S1536x16384, .f32⟩
  | .hbm, ⟨81, _⟩ => ⟨S_, .f32⟩
  | .hbm, ⟨82, _⟩ => ⟨S_, .f32⟩
  | .hbm, ⟨83, _⟩ => ⟨S1536x16384, .f32⟩
  | .hbm, ⟨84, _⟩ => ⟨S1536x16384, .f32⟩
  | .hbm, ⟨85, _⟩ => ⟨S1536x1280, .bf16⟩
  | .hbm, ⟨86, _⟩ => ⟨S1536, .f32⟩
  | .hbm, ⟨87, _⟩ => ⟨S1536, .f32⟩
  | .hbm, ⟨88, _⟩ => ⟨S1536, .f32⟩
  | .hbm, ⟨89, _⟩ => ⟨S1536x16384, .f32⟩
  | .hbm, ⟨90, _⟩ => ⟨S_, .f32⟩
  | .hbm, ⟨91, _⟩ => ⟨S1536, .f32⟩
  | .hbm, ⟨92, _⟩ => ⟨S1536, .f32⟩
  | .hbm, ⟨93, _⟩ => ⟨S1536, .f32⟩
  | .hbm, ⟨94, _⟩ => ⟨S1536, .f32⟩
  | .hbm, ⟨95, _⟩ => ⟨S1536, .i1⟩
  | .hbm, ⟨96, _⟩ => ⟨S1536, .f32⟩
  | .hbm, ⟨97, _⟩ => ⟨S1536, .f32⟩
  | .hbm, ⟨98, _⟩ => ⟨S1536, .f32⟩
  | .hbm, ⟨99, _⟩ => ⟨S1536, .f32⟩
  | .hbm, ⟨100, _⟩ => ⟨S1536, .f32⟩
  | .hbm, ⟨101, _⟩ => ⟨S1536, .f32⟩
  | .hbm, ⟨102, _⟩ => ⟨S1536, .f32⟩
  | .hbm, ⟨103, _⟩ => ⟨S1536, .f32⟩
  | .hbm, ⟨104, _⟩ => ⟨S1536, .f32⟩
  | .hbm, ⟨105, _⟩ => ⟨S1536, .f32⟩
  | .hbm, ⟨106, _⟩ => ⟨S_, .f32⟩
  | .hbm, ⟨107, _⟩ => ⟨S1536, .f32⟩
  | .hbm, ⟨108, _⟩ => ⟨S1536, .f32⟩
  | .hbm, ⟨109, _⟩ => ⟨S1536, .f32⟩
  | .hbm, ⟨110, _⟩ => ⟨S1536, .f32⟩
  | .hbm, ⟨111, _⟩ => ⟨S1536x1, .f32⟩
  | .hbm, ⟨112, _⟩ => ⟨S1536x1280, .f32⟩
  | .hbm, ⟨113, _⟩ => ⟨S1536x1280, .f32⟩
  | .hbm, ⟨114, _⟩ => ⟨S1536x1, .f32⟩
  | .hbm, ⟨115, _⟩ => ⟨S1536x1280, .f32⟩
  | .hbm, ⟨116, _⟩ => ⟨S1536x1280, .f32⟩
  | .hbm, ⟨117, _⟩ => ⟨S1536x1280, .f32⟩
  | .hbm, ⟨118, _⟩ => ⟨S12x128, .f32⟩
  | _, _ => ⟨S12x128x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst : Ref sig .tc := ⟨.hbm, 81, rfl⟩
abbrev main_call0_v0 : Ref sig .tc := ⟨.hbm, 82, rfl⟩
abbrev main_call0_v1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩

abbrev nD : Nat := 1
abbrev τ : Topo := Topo.v7x

variable {F : FTy → Type} [FloatOps F]
-- ==== Proof.GradVal.lean ====
module

public import proofs.«01_k».proof.Proof.Gen.GradIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.GradIdeal.Val

open Cert.GradIdeal Cert.GradIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The gradient of a logit, in block coordinates. -/
def dz (A : Vec Ideal S8x512 .f32) (C : Vec Ideal S512x1280 .i8) (X : Vec Ideal S1536x1280 .bf16) (R : Vec Ideal S8x1536 .f32)
    (r : Fin 512) (t : Fin 1536) : EReal :=
  R (ix2 2 t) * (if A (ix2 2 r) = R (ix2 0 t) then 0 else
    Ideal.exp ((∑ d : Fin 1280, ((C (ix2 r d)).toInt : ℝ) * X (ix2 t d)) * A (ix2 0 r) - A (ix2 1 r) - R (ix2 1 t)))

/-- What one grid point adds to the running sum for the hidden states' gradient. -/
def accNew (A : Vec Ideal S8x512 .f32) (C : Vec Ideal S512x1280 .i8) (X : Vec Ideal S1536x1280 .bf16) (R : Vec Ideal S8x1536 .f32)
    (acc : Vec Ideal S1536x1280 .f32) : Vec Ideal S1536x1280 .f32 := fun y =>
  acc y + ∑ r : Fin 512, dz A C X R r (y 0) * A (ix2 0 r) * ((C (ix2 r (y 1))).toInt : ℝ)

/-- The gradient of the logits of one block of rows, as a vector. -/
def dzV (A : Vec Ideal S8x512 .f32) (C : Vec Ideal S512x1280 .i8) (X : Vec Ideal S1536x1280 .bf16) (R : Vec Ideal S8x1536 .f32) :
    Vec Ideal S512x1536 .bf16 := fun y => dz A C X R (y 0) (y 1)

/-- Six stores, later than those of `L'`, read back where one of them holds the index. -/
theorem canon_six (G : Vec Ideal S1536x1280 .f32) (p1 p2 p3 p4 p5 p6 : View.Piece (Elt Ideal) S1536x1280 .f32) (L' : List (View.Piece (Elt Ideal) S1536x1280 .f32))
    (h : View.PiecesOf (Val := Elt Ideal) G [p1, p2, p3, p4, p5, p6]) (y : S1536x1280.Idx) (hc : ∃ p ∈ [p1, p2, p3, p4, p5, p6], y ∈ p.1.set) :
    View.canon (p1 :: p2 :: p3 :: p4 :: p5 :: p6 :: L') y = G y :=
  View.canon_append_of_piecesOf G L' [p1, p2, p3, p4, p5, p6] h y hc

theorem pay3_at (C : Vec Ideal S512x1280 .i8) (r : Fin 512) (d : Fin 1280) : k0_pay3 C (ix2 r d) = ((C (ix2 r d)).toInt : ℝ) := by
  pointwise [k0_pay3]
  rfl

theorem pay8_at (A : Vec Ideal S8x512 .f32) (C : Vec Ideal S512x1280 .i8) (X : Vec Ideal S1536x1280 .bf16) (R : Vec Ideal S8x1536 .f32)
    (X' : Vec Ideal S256x1280 .bf16) (R0 R1 R2 : Vec Ideal S1x256 .f32) (r : Fin 512) (l : Fin 256) (t : Fin 1536)
    (hX : ∀ d : Fin 1280, X' (ix2 l d) = X (ix2 t d)) (h0 : R0 (ix2 0 l) = R (ix2 0 t)) (h1 : R1 (ix2 0 l) = R (ix2 1 t)) (h2 : R2 (ix2 0 l) = R (ix2 2 t)) :
    k0_pay8 A (k0_pay3 C) X' R0 R1 R2 (ix2 r l) = dz A C X R r t := by
  unfold dz
  pointwise [k0_pay8, k0_pay3, k0_pay4, k0_pay5, k0_pay6, k0_pay7]
  rw [h0, h1, h2]
  simp only [hX]
  rfl

theorem pay5_at (A : Vec Ideal S8x512 .f32) (r : Fin 512) (l : Fin 256) : k0_pay5 A (ix2 r l) = A (ix2 0 r) := by
  pointwise [k0_pay4, k0_pay5]

theorem pay11_at (S G : FVec Ideal S512x256 .f32) (acc : Vec Ideal S256x1280 .f32) (C : Vec Ideal S512x1280 .bf16) (l : Fin 256) (d : Fin 1280) :
    k0_pay11 S G acc C (ix2 l d) = acc (ix2 l d) + ∑ r : Fin 512, G (ix2 r l) * S (ix2 r l) * C (ix2 r d) := by
  pointwise [k0_pay11]

theorem pay30_at (Z : Vec Ideal S512x1536 .bf16) (X : Vec Ideal S1536x1280 .bf16) (r : Fin 512) (d : Fin 1280) :
    k0_pay30 Z X (ix2 r d) = ∑ t : Fin 1536, Z (ix2 r t) * X (ix2 t d) := by
  pointwise [k0_pay30]

/-- The gradient of the logits in one block of 256 tokens, starting at token `o`. -/
theorem dz_block (A : Vec Ideal S8x512 .f32) (C : Vec Ideal S512x1280 .i8) (X : Vec Ideal S1536x1280 .bf16) (R : Vec Ideal S8x1536 .f32)
    (o : ℕ) (ho : o + 256 ≤ 1536) (i1 : ∀ a, (![o, 0] : Fin 2 → ℕ) a + S256x1280.size a ≤ S1536x1280.size a)
    (i2 : ∀ a, (![0, o] : Fin 2 → ℕ) a + S1x256.size a ≤ S8x1536.size a) (i3 : ∀ a, (![1, o] : Fin 2 → ℕ) a + S1x256.size a ≤ S8x1536.size a)
    (i4 : ∀ a, (![2, o] : Fin 2 → ℕ) a + S1x256.size a ≤ S8x1536.size a) (r : Fin 512) (l : Fin 256) :
    k0_pay8 A (k0_pay3 C) (View.ld (S := S1536x1280) (e' := .bf16) X (Rect.unit ![o, 0] S256x1280.size i1))
      (View.ld (S := S8x1536) (e' := .f32) R (Rect.unit ![0, o] S1x256.size i2)) (View.ld (S := S8x1536) (e' := .f32) R (Rect.unit ![1, o] S1x256.size i3))
      (View.ld (S := S8x1536) (e' := .f32) R (Rect.unit ![2, o] S1x256.size i4)) (ix2 r l) = dz A C X R r ⟨o + l, by omega⟩ := by
  refine pay8_at A C X R _ _ _ _ r l _ (fun d => ?_) ?_ ?_ ?_ <;>
    refine View.ld_unit_apply_of _ _ _ _ _ _ fun a => ?_ <;> fin_cases a <;> simp [ix2]

theorem pay10_at (A : Vec Ideal S8x512 .f32) (C : Vec Ideal S512x1280 .bf16) (X' : Vec Ideal S256x1280 .bf16) (R0 R1 R2 : Vec Ideal S1x256 .f32)
    (r : Fin 512) (l : Fin 256) : k0_pay10 (k0_pay9 A C X' R0 R1 R2) (ix2 r l) = k0_pay8 A C X' R0 R1 R2 (ix2 r l) := by
  pointwise [k0_pay9, k0_pay10]

theorem pay2_eq (X : Vec Ideal S1536x1280 .f32) : k0_pay2 X = X := by
  funext y
  obtain ⟨r, d, rfl⟩ : ∃ (r : Fin 1536) (d : Fin 1280), y = ix2 r d := ⟨y 0, y 1, by funext a; fin_cases a <;> rfl⟩
  pointwise [k0_pay2]

theorem pay1_at (X : Vec Ideal S1536x1280 .f32) (y : S1536x1280.Idx) : k0_pay1 X y = X y := by
  obtain ⟨r, d, rfl⟩ : ∃ (r : Fin 1536) (d : Fin 1280), y = ix2 r d := ⟨y 0, y 1, by funext a; fin_cases a <;> rfl⟩
  pointwise [k0_pay1]

theorem zero2 : ∀ a : Fin 2, (![0, 0] : Fin 2 → ℕ) a = 0 := by decide

/-- A load of 256 rows does not see a store to 256 rows above it. -/
theorem readCov_above {κ : Kind} {sp : Space} (v : View sig κ sp S1536x1280 .f32) (o o' : ℕ) (i1 i2) (w) (L : List (View.Piece (Elt Ideal) S1536x1280 .f32))
    (h : o + 256 ≤ o') : v.readCov (⟨Rect.unit (s := S1536x1280) ![o, 0] ![256, 1280] i1, w⟩ :: L) (Rect.unit (s := S1536x1280) ![o', 0] ![256, 1280] i2).toLoadRect
      = v.readCov L (Rect.unit (s := S1536x1280) ![o', 0] ![256, 1280] i2).toLoadRect := by
  refine View.readCov_cons_of_disjoint _ _ _ _ (Finset.disjoint_left.mpr fun y hy hy' => ?_)
  obtain ⟨x, rfl⟩ := LoadRect.exists_idx_of_mem _ hy
  obtain ⟨x', hx⟩ := LoadRect.exists_idx_of_mem _ hy'
  have h1 := Rect.idx_unit_val _ _ i1 x 0
  have h2 := Rect.idx_unit_val _ _ i2 x' 0
  have h3 : (x 0 : ℕ) < 256 := (x 0).isLt
  rw [hx] at h2
  simp at h1 h2
  omega

/-- A load of 256 rows after a store of the whole sees that store's value. -/
theorem readCov_init {κ : Kind} {sp : Space} (v : View sig κ sp S1536x1280 .f32) (o : ℕ) (i1 i2) (Z : Vec Ideal S1536x1280 .f32) (L : List (View.Piece (Elt Ideal) S1536x1280 .f32)) :
    v.readCov (⟨Rect.unit (s := S1536x1280) ![0, 0] ![1536, 1280] i1, Z⟩ :: L) (Rect.unit (s := S1536x1280) ![o, 0] ![256, 1280] i2).toLoadRect
      = View.ld (Val := Elt Ideal) (e' := .f32) Z (Rect.unit (s := S1536x1280) ![o, 0] ![256, 1280] i2) :=
  View.readCov_fill v i1 Z L _ zero2

/-- One block of the stored gradient of the logits. -/
theorem dz_piece (A : Vec Ideal S8x512 .f32) (C : Vec Ideal S512x1280 .i8) (X : Vec Ideal S1536x1280 .bf16) (R : Vec Ideal S8x1536 .f32)
    (o : ℕ) (ho : o + 256 ≤ 1536) (i1 : ∀ a, (![o, 0] : Fin 2 → ℕ) a + S256x1280.size a ≤ S1536x1280.size a)
    (i2 : ∀ a, (![0, o] : Fin 2 → ℕ) a + S1x256.size a ≤ S8x1536.size a) (i3 : ∀ a, (![1, o] : Fin 2 → ℕ) a + S1x256.size a ≤ S8x1536.size a)
    (i4 : ∀ a, (![2, o] : Fin 2 → ℕ) a + S1x256.size a ≤ S8x1536.size a)
    (i5 : ∀ a, (![0, o] : Fin 2 → ℕ) a + S512x256.size a ≤ S512x1536.size a) (x : (Rect.unit (s := S512x1536) ![0, o] S512x256.size i5).shape.Idx) :
    k0_pay10 (F := Ideal) (k0_pay9 A (k0_pay3 C) (View.ld (S := S1536x1280) (e' := .bf16) X (Rect.unit ![o, 0] S256x1280.size i1))
      (View.ld (S := S8x1536) (e' := .f32) R (Rect.unit ![0, o] S1x256.size i2)) (View.ld (S := S8x1536) (e' := .f32) R (Rect.unit ![1, o] S1x256.size i3))
      (View.ld (S := S8x1536) (e' := .f32) R (Rect.unit ![2, o] S1x256.size i4))) x
      = dzV A C X R ((Rect.unit (s := S512x1536) ![0, o] S512x256.size i5).emb x) := by
  obtain ⟨r, l, rfl⟩ : ∃ (r : Fin 512) (l : Fin 256), x = (ix2 r l : S512x256.Idx) := ⟨x 0, x 1, by funext a; fin_cases a <;> rfl⟩
  refine ((pay10_at _ _ _ _ _ _ r l).trans (dz_block A C X R o ho i1 i2 i3 i4 r l)).trans ?_
  show _ = dz A C X R _ _
  congr 1
  · ext; exact ((Rect.idx_unit_val _ _ _ _ 0).trans (by simp [ix2])).symm
  · ext; exact ((Rect.idx_unit_val _ _ _ _ 1).trans (by simp [ix2])).symm

/-- One block of the running sum after its addition. -/
theorem acc_piece (A : Vec Ideal S8x512 .f32) (C : Vec Ideal S512x1280 .i8) (X : Vec Ideal S1536x1280 .bf16) (R : Vec Ideal S8x1536 .f32)
    (acc : Vec Ideal S1536x1280 .f32)
    (o : ℕ) (ho : o + 256 ≤ 1536) (i1 : ∀ a, (![o, 0] : Fin 2 → ℕ) a + S256x1280.size a ≤ S1536x1280.size a)
    (i2 : ∀ a, (![0, o] : Fin 2 → ℕ) a + S1x256.size a ≤ S8x1536.size a) (i3 : ∀ a, (![1, o] : Fin 2 → ℕ) a + S1x256.size a ≤ S8x1536.size a)
    (i4 : ∀ a, (![2, o] : Fin 2 → ℕ) a + S1x256.size a ≤ S8x1536.size a)
    (x : (Rect.unit (s := S1536x1280) ![o, 0] S256x1280.size i1).shape.Idx) :
    k0_pay11 (k0_pay5 A) (k0_pay8 A (k0_pay3 C) (View.ld (S := S1536x1280) (e' := .bf16) X (Rect.unit ![o, 0] S256x1280.size i1))
      (View.ld (S := S8x1536) (e' := .f32) R (Rect.unit ![0, o] S1x256.size i2)) (View.ld (S := S8x1536) (e' := .f32) R (Rect.unit ![1, o] S1x256.size i3))
      (View.ld (S := S8x1536) (e' := .f32) R (Rect.unit ![2, o] S1x256.size i4)))
      (View.ld (S := S1536x1280) (e' := .f32) acc (Rect.unit ![o, 0] S256x1280.size i1)) (k0_pay3 C) x
      = accNew A C X R acc ((Rect.unit (s := S1536x1280) ![o, 0] S256x1280.size i1).emb x) := by
  obtain ⟨l, d, rfl⟩ : ∃ (r : Fin 256) (l : Fin 1280), x = (ix2 r l : S256x1280.Idx) := ⟨x 0, x 1, by funext a; fin_cases a <;> rfl⟩
  have he : (Rect.unit (s := S1536x1280) ![o, 0] S256x1280.size i1).emb (ix2 l d : S256x1280.Idx) = ix2 (⟨o + l, by omega⟩ : Fin 1536) d := by
    funext a; ext; refine (Rect.idx_unit_val _ _ _ _ _).trans ?_; fin_cases a <;> simp [ix2]
  rw [he]
  refine (pay11_at _ _ _ _ l d).trans ?_
  unfold accNew
  refine congrArg₂ (· + ·) ?_ (Finset.sum_congr rfl fun r _ => ?_)
  · refine View.ld_unit_apply_of _ _ _ _ _ _ fun a => ?_
    fin_cases a <;> simp [ix2]
  · rw [dz_block A C X R o ho i1 i2 i3 i4 r l, pay5_at, pay3_at]
    rfl

section
variable (c : Dev nD) (i : grid0.Coords) (arg1 : Memref sig .tc .vmem S8x512 .f32) (harg1 : arg1.IsWhole) (arg2 : Memref sig .tc .vmem S512x1280 .i8) (harg2 : arg2.IsWhole) (arg3 : Memref sig .tc .vmem S1536x1280 .bf16) (harg3 : arg3.IsWhole) (arg4 : Memref sig .tc .vmem S8x1536 .f32) (harg4 : arg4.IsWhole) (arg5 : Memref sig .tc .vmem S1536x1280 .f32) (harg5 : arg5.IsWhole) (arg6 : Memref sig .tc .vmem S512x1280 .f32) (harg6 : arg6.IsWhole) (arg7 : Memref sig .tc .vmem S1536x1280 .bf16) (harg7 : arg7.IsWhole) (arg8 : Memref sig .tc .vmem S512x1280 .bf16) (harg8 : arg8.IsWhole) (arg9 : Memref sig .tc .vmem S512x1536 .bf16) (harg9 : arg9.IsWhole) (arg10 : Memref sig .tc .vmem S1536x1280 .f32) (harg10 : arg10.IsWhole)
  (x0 : Vec Ideal S8x512 .f32) (x1 : Vec Ideal S512x1280 .i8) (x2 : Vec Ideal S1536x1280 .bf16) (x3 : Vec Ideal S8x1536 .f32) (x4 : Vec Ideal S1536x1280 .f32)

theorem out_A (hc0 : cond0_0 i) (hc1 : ¬cond0_1 i) (y : S512x1280.Idx) :
    out0_A_5 c i arg1 harg1 arg2 harg2 arg3 harg3 arg4 harg4 arg5 harg5 arg6 harg6 arg7 harg7 arg8 harg8 arg9 harg9 arg10 harg10 hc0 hc1 x0 x1 x2 x3 x4 y = ∑ t : Fin 1536, dz x0 x1 x2 x3 (y 0) t * x2 (ix2 t (y 1)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  rw [View.canon_unit_zero hz]
  sl_unfold_words
  simp only [View.readAt_eq_ld, harg1.read_unread, harg2.read_unread, harg3.read_unread, harg4.read_unread, harg5.read_unread, harg10.read_unread,
    View.ld_unit_zero (S := S8x512) hz, View.ld_unit_zero (S := S512x1280) hz, View.ld_unit_zero (S := S1536x1280) hz, View.readCov_unit_zero (S := S512x1280) _ hz]
  rw [View.readCov_eq_canon_ld _ _ _ (fun y => by exact View.cover_of_tiled_head _ _ _ rfl y), View.ld_unit_zero (S := S512x1536) hz]
  obtain ⟨r, d, rfl⟩ : ∃ (r : Fin 512) (d : Fin 1280), y = ix2 r d := ⟨y 0, y 1, by funext a; fin_cases a <;> rfl⟩
  refine (pay30_at _ _ r d).trans (Finset.sum_congr rfl fun t _ => ?_)
  congr 1
  refine View.canon_apply_of_pieces (S := S512x1536) (Val := Elt Ideal) (e := .bf16) (dzV x0 x1 x2 x3) _ (View.PiecesOf.mem ?_) _ ?_
  · exact ⟨dz_piece _ _ _ _ 1280 (by norm_num) _ _ _ _ inb_S512x1536_S512x256_0_1280, dz_piece _ _ _ _ 1024 (by norm_num) _ _ _ _ inb_S512x1536_S512x256_0_1024, dz_piece _ _ _ _ 768 (by norm_num) _ _ _ _ inb_S512x1536_S512x256_0_768, dz_piece _ _ _ _ 512 (by norm_num) _ _ _ _ inb_S512x1536_S512x256_0_512, dz_piece _ _ _ _ 256 (by norm_num) _ _ _ _ inb_S512x1536_S512x256_0_256, dz_piece _ _ _ _ 0 (by norm_num) _ _ _ _ inb_S512x1536_S512x256_0_0, trivial⟩
  · exact View.cover_of_tiled_head _ _ _ rfl _

theorem out_B (hc0 : ¬cond0_0 i) (hc1 : ¬cond0_1 i) (xs : Vec Ideal S1536x1280 .f32) (y : S512x1280.Idx) :
    out0_B_5 c i arg1 harg1 arg2 harg2 arg3 harg3 arg4 harg4 arg5 harg5 arg6 harg6 arg7 harg7 arg8 harg8 arg9 harg9 arg10 harg10 hc0 hc1 x0 x1 x2 x3 x4 xs y = ∑ t : Fin 1536, dz x0 x1 x2 x3 (y 0) t * x2 (ix2 t (y 1)) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs)]
  unfold kernelRun0_B
  dsimp only
  rw [View.canon_unit_zero hz]
  sl_unfold_words
  simp only [View.readAt_eq_ld, harg1.read_unread, harg2.read_unread, harg3.read_unread, harg4.read_unread, harg5.read_unread, harg10.read_unread,
    View.ld_unit_zero (S := S8x512) hz, View.ld_unit_zero (S := S512x1280) hz, View.ld_unit_zero (S := S1536x1280) hz, View.readCov_unit_zero (S := S512x1280) _ hz]
  rw [View.readCov_eq_canon_ld _ _ _ (fun y => by exact View.cover_of_tiled_head _ _ _ rfl y), View.ld_unit_zero (S := S512x1536) hz]
  obtain ⟨r, d, rfl⟩ : ∃ (r : Fin 512) (d : Fin 1280), y = ix2 r d := ⟨y 0, y 1, by funext a; fin_cases a <;> rfl⟩
  refine (pay30_at _ _ r d).trans (Finset.sum_congr rfl fun t _ => ?_)
  congr 1
  refine View.canon_apply_of_pieces (S := S512x1536) (Val := Elt Ideal) (e := .bf16) (dzV x0 x1 x2 x3) _ (View.PiecesOf.mem ?_) _ ?_
  · exact ⟨dz_piece _ _ _ _ 1280 (by norm_num) _ _ _ _ inb_S512x1536_S512x256_0_1280, dz_piece _ _ _ _ 1024 (by norm_num) _ _ _ _ inb_S512x1536_S512x256_0_1024, dz_piece _ _ _ _ 768 (by norm_num) _ _ _ _ inb_S512x1536_S512x256_0_768, dz_piece _ _ _ _ 512 (by norm_num) _ _ _ _ inb_S512x1536_S512x256_0_512, dz_piece _ _ _ _ 256 (by norm_num) _ _ _ _ inb_S512x1536_S512x256_0_256, dz_piece _ _ _ _ 0 (by norm_num) _ _ _ _ inb_S512x1536_S512x256_0_0, trivial⟩
  · exact View.cover_of_tiled_head _ _ _ rfl _

theorem out_C (hc0 : ¬cond0_0 i) (hc1 : cond0_1 i) (xs : Vec Ideal S1536x1280 .f32) (y : S512x1280.Idx) :
    out0_C_5 c i arg1 harg1 arg2 harg2 arg3 harg3 arg4 harg4 arg5 harg5 arg6 harg6 arg7 harg7 arg8 harg8 arg9 harg9 arg10 harg10 hc0 hc1 x0 x1 x2 x3 x4 xs y = ∑ t : Fin 1536, dz x0 x1 x2 x3 (y 0) t * x2 (ix2 t (y 1)) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs)]
  unfold kernelRun0_C
  dsimp only
  rw [View.canon_unit_zero hz]
  sl_unfold_words
  simp only [View.readAt_eq_ld, harg1.read_unread, harg2.read_unread, harg3.read_unread, harg4.read_unread, harg5.read_unread, harg10.read_unread,
    View.ld_unit_zero (S := S8x512) hz, View.ld_unit_zero (S := S512x1280) hz, View.ld_unit_zero (S := S1536x1280) hz, View.readCov_unit_zero (S := S512x1280) _ hz]
  rw [View.readCov_eq_canon_ld _ _ _ (fun y => by exact View.cover_of_tiled_head _ _ _ rfl y), View.ld_unit_zero (S := S512x1536) hz]
  obtain ⟨r, d, rfl⟩ : ∃ (r : Fin 512) (d : Fin 1280), y = ix2 r d := ⟨y 0, y 1, by funext a; fin_cases a <;> rfl⟩
  refine (pay30_at _ _ r d).trans (Finset.sum_congr rfl fun t _ => ?_)
  congr 1
  refine View.canon_apply_of_pieces (S := S512x1536) (Val := Elt Ideal) (e := .bf16) (dzV x0 x1 x2 x3) _ (View.PiecesOf.mem ?_) _ ?_
  · exact ⟨dz_piece _ _ _ _ 1280 (by norm_num) _ _ _ _ inb_S512x1536_S512x256_0_1280, dz_piece _ _ _ _ 1024 (by norm_num) _ _ _ _ inb_S512x1536_S512x256_0_1024, dz_piece _ _ _ _ 768 (by norm_num) _ _ _ _ inb_S512x1536_S512x256_0_768, dz_piece _ _ _ _ 512 (by norm_num) _ _ _ _ inb_S512x1536_S512x256_0_512, dz_piece _ _ _ _ 256 (by norm_num) _ _ _ _ inb_S512x1536_S512x256_0_256, dz_piece _ _ _ _ 0 (by norm_num) _ _ _ _ inb_S512x1536_S512x256_0_0, trivial⟩
  · exact View.cover_of_tiled_head _ _ _ rfl _

theorem sout_B (hc0 : ¬cond0_0 i) (hc1 : ¬cond0_1 i) (xs : Vec Ideal S1536x1280 .f32) (y : S1536x1280.Idx) :
    sout0_B_2 c i arg1 harg1 arg2 harg2 arg3 harg3 arg4 harg4 arg5 harg5 arg6 harg6 arg7 harg7 arg8 harg8 arg9 harg9 arg10 harg10 hc0 hc1 x0 x1 x2 x3 x4 xs y = accNew x0 x1 x2 x3 xs y := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 hc0 hc1 x0 x1 x2 x3 x4 xs)]
  unfold kernelRun0_B
  dsimp only
  sl_unfold_words
  simp only [View.readAt_eq_ld, harg1.read_unread, harg2.read_unread, harg3.read_unread, harg4.read_unread, harg5.read_unread, harg10.read_unread,
    View.ld_unit_zero (S := S8x512) hz, View.ld_unit_zero (S := S512x1280) hz, View.ld_unit_zero (S := S1536x1280) hz, View.readCov_unit_zero (S := S512x1280) _ hz]
  refine View.canon_apply_of_pieces (S := S1536x1280) (Val := Elt Ideal) (e := .f32) (accNew x0 x1 x2 x3 xs) _ (View.PiecesOf.mem ?_) _ ?_
  · exact ⟨acc_piece _ _ _ _ _ 1280 (by norm_num) _ _ _ _, acc_piece _ _ _ _ _ 1024 (by norm_num) _ _ _ _, acc_piece _ _ _ _ _ 768 (by norm_num) _ _ _ _, acc_piece _ _ _ _ _ 512 (by norm_num) _ _ _ _, acc_piece _ _ _ _ _ 256 (by norm_num) _ _ _ _, acc_piece _ _ _ _ _ 0 (by norm_num) _ _ _ _, trivial⟩
  · exact View.cover_of_tiled_head _ _ _ rfl _

theorem sout_C (hc0 : ¬cond0_0 i) (hc1 : cond0_1 i) (xs : Vec Ideal S1536x1280 .f32) (y : S1536x1280.Idx) :
    sout0_C_2 c i arg1 harg1 arg2 harg2 arg3 harg3 arg4 harg4 arg5 harg5 arg6 harg6 arg7 harg7 arg8 harg8 arg9 harg9 arg10 harg10 hc0 hc1 x0 x1 x2 x3 x4 xs y = accNew x0 x1 x2 x3 xs y := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 hc0 hc1 x0 x1 x2 x3 x4 xs)]
  unfold kernelRun0_C
  dsimp only
  sl_unfold_words
  simp only [View.readAt_eq_ld, harg1.read_unread, harg2.read_unread, harg3.read_unread, harg4.read_unread, harg5.read_unread, harg10.read_unread,
    View.ld_unit_zero (S := S8x512) hz, View.ld_unit_zero (S := S512x1280) hz, View.ld_unit_zero (S := S1536x1280) hz, View.readCov_unit_zero (S := S512x1280) _ hz]
  refine View.canon_apply_of_pieces (S := S1536x1280) (Val := Elt Ideal) (e := .f32) (accNew x0 x1 x2 x3 xs) _ (View.PiecesOf.mem ?_) _ ?_
  · exact ⟨acc_piece _ _ _ _ _ 1280 (by norm_num) _ _ _ _, acc_piece _ _ _ _ _ 1024 (by norm_num) _ _ _ _, acc_piece _ _ _ _ _ 768 (by norm_num) _ _ _ _, acc_piece _ _ _ _ _ 512 (by norm_num) _ _ _ _, acc_piece _ _ _ _ _ 256 (by norm_num) _ _ _ _, acc_piece _ _ _ _ _ 0 (by norm_num) _ _ _ _, trivial⟩
  · exact View.cover_of_tiled_head _ _ _ rfl _

theorem out_C_last (hc0 : ¬cond0_0 i) (hc1 : cond0_1 i) (xs : Vec Ideal S1536x1280 .f32) (y : S1536x1280.Idx) :
    out0_C_6 c i arg1 harg1 arg2 harg2 arg3 harg3 arg4 harg4 arg5 harg5 arg6 harg6 arg7 harg7 arg8 harg8 arg9 harg9 arg10 harg10 hc0 hc1 x0 x1 x2 x3 x4 xs y = accNew x0 x1 x2 x3 xs y := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs)]
  unfold kernelRun0_C
  dsimp only
  rw [View.canon_unit_zero (S := S1536x1280) hz]
  sl_unfold_words
  simp only [View.readAt_eq_ld, harg1.read_unread, harg2.read_unread, harg3.read_unread, harg4.read_unread, harg5.read_unread, harg10.read_unread,
    View.ld_unit_zero (S := S8x512) hz, View.ld_unit_zero (S := S512x1280) hz, View.ld_unit_zero (S := S1536x1280) hz, View.readCov_unit_zero (S := S512x1280) _ hz]
  rw [View.readCov_eq_canon_ld _ _ _ (fun y => by exact View.cover_of_tiled_head _ _ _ rfl y), View.ld_unit_zero (S := S1536x1280) hz]
  refine (pay1_at _ y).trans ?_
  refine View.canon_apply_of_pieces (S := S1536x1280) (Val := Elt Ideal) (e := .f32) (accNew x0 x1 x2 x3 xs) _ (View.PiecesOf.mem ?_) _ ?_
  · exact ⟨acc_piece _ _ _ _ _ 1280 (by norm_num) _ _ _ _, acc_piece _ _ _ _ _ 1024 (by norm_num) _ _ _ _, acc_piece _ _ _ _ _ 768 (by norm_num) _ _ _ _, acc_piece _ _ _ _ _ 512 (by norm_num) _ _ _ _, acc_piece _ _ _ _ _ 256 (by norm_num) _ _ _ _, acc_piece _ _ _ _ _ 0 (by norm_num) _ _ _ _, trivial⟩
  · exact View.cover_of_tiled_head _ _ _ rfl _

theorem sout_A (hc0 : cond0_0 i) (hc1 : ¬cond0_1 i) (y : S1536x1280.Idx) :
    sout0_A_2 c i arg1 harg1 arg2 harg2 arg3 harg3 arg4 harg4 arg5 harg5 arg6 harg6 arg7 harg7 arg8 harg8 arg9 harg9 arg10 harg10 hc0 hc1 x0 x1 x2 x3 x4 y = accNew x0 x1 x2 x3 x4 y := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg10.read_unread,
    View.ld_unit_zero (S := S8x512) hz, View.ld_unit_zero (S := S512x1280) hz, View.ld_unit_zero (S := S1536x1280) hz, View.readCov_unit_zero (S := S512x1280) _ hz]
  simp (disch := norm_num) only [readCov_above, readCov_init, pay2_eq]
  refine canon_six (accNew x0 x1 x2 x3 x4) _ _ _ _ _ _ _ ?_ _ ?_
  · exact ⟨acc_piece _ _ _ _ _ 1280 (by norm_num) _ _ _ _, acc_piece _ _ _ _ _ 1024 (by norm_num) _ _ _ _, acc_piece _ _ _ _ _ 768 (by norm_num) _ _ _ _, acc_piece _ _ _ _ _ 512 (by norm_num) _ _ _ _, acc_piece _ _ _ _ _ 256 (by norm_num) _ _ _ _, acc_piece _ _ _ _ _ 0 (by norm_num) _ _ _ _, trivial⟩
  · exact View.cover_of_tiled_head _ _ _ rfl _

end
end Cert.GradIdeal.Val
-- ==== Proof.GradSum.lean ====
module

public import proofs.«01_k».proof.Proof.GradVal

@[expose] public section

set_option maxRecDepth 16384

noncomputable section

namespace Cert.GradIdeal.Val

open Cert.GradIdeal Cert.GradIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## What the blocks hold -/

theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The row of the whole table that row `r` of block `t` is. -/
def rowOf (t : Fin 32) (r : Fin 512) : Fin 16384 := ⟨512 * t.val + r.val, by omega⟩

def pt (t : Fin cfg0.N) : Fin 32 := ⟨t.val, lt_of_lt_of_eq t.isLt N_0⟩

/-- The call's arguments as whole arrays. -/
abbrev aux : Vec Ideal S8x16384 .f32 := V m c (Pipeline.arrRef spec0 0)
abbrev codes : Vec Ideal S16384x1280 .i8 := V m c (Pipeline.arrRef spec0 1)
abbrev hid : Vec Ideal S1536x1280 .bf16 := V m c (Pipeline.arrRef spec0 2)
abbrev rows : Vec Ideal S8x1536 .f32 := V m c (Pipeline.arrRef spec0 3)
abbrev dh0 : Vec Ideal S1536x1280 .f32 := V m c (Pipeline.arrRef spec0 4)

theorem iblk0_at (t : Fin cfg0.N) (a : Fin 8) (r : Fin 512) : iblk m c 0 t (ix2 a r : S8x512.Idx) = aux m c (ix2 a (rowOf (pt t) r)) := by
  obtain ⟨h0, h1⟩ := idx0 t
  refine congrArg (aux m c) (funext fun k => Fin.ext ?_)
  match k with
  | ⟨0, _⟩ => show win0_0.index t (0 : Fin 2) * 8 + 1 * a.val = a.val; omega
  | ⟨1, _⟩ => show win0_0.index t (1 : Fin 2) * 512 + 1 * r.val = 512 * t.val + r.val; omega

theorem iblk1_at (t : Fin cfg0.N) (r : Fin 512) (d : Fin 1280) : iblk m c 1 t (ix2 r d : S512x1280.Idx) = codes m c (ix2 (rowOf (pt t) r) d) := by
  obtain ⟨h0, h1⟩ := idx1 t
  refine congrArg (codes m c) (funext fun k => Fin.ext ?_)
  match k with
  | ⟨0, _⟩ => show win0_1.index t (0 : Fin 2) * 512 + 1 * r.val = 512 * t.val + r.val; omega
  | ⟨1, _⟩ => show win0_1.index t (1 : Fin 2) * 1280 + 1 * d.val = d.val; omega

theorem iblk2_eq (t : Fin cfg0.N) : iblk m c 2 t = hid m c := by
  obtain ⟨h0, h1⟩ := idx2 t
  funext y
  refine congrArg (hid m c) (funext fun k => Fin.ext ?_)
  match k with
  | ⟨0, _⟩ => show win0_2.index t (0 : Fin 2) * 1536 + 1 * (y 0).val = (y 0).val; omega
  | ⟨1, _⟩ => show win0_2.index t (1 : Fin 2) * 1280 + 1 * (y 1).val = (y 1).val; omega

theorem iblk3_eq (t : Fin cfg0.N) : iblk m c 3 t = rows m c := by
  obtain ⟨h0, h1⟩ := idx3 t
  funext y
  refine congrArg (rows m c) (funext fun k => Fin.ext ?_)
  match k with
  | ⟨0, _⟩ => show win0_3.index t (0 : Fin 2) * 8 + 1 * (y 0).val = (y 0).val; omega
  | ⟨1, _⟩ => show win0_3.index t (1 : Fin 2) * 1536 + 1 * (y 1).val = (y 1).val; omega

theorem iblk4_eq (t : Fin cfg0.N) : iblk m c 4 t = dh0 m c := by
  obtain ⟨h0, h1⟩ := idx4 t
  funext y
  refine congrArg (dh0 m c) (funext fun k => Fin.ext ?_)
  match k with
  | ⟨0, _⟩ => show win0_4.index t (0 : Fin 2) * 1536 + 1 * (y 0).val = (y 0).val; omega
  | ⟨1, _⟩ => show win0_4.index t (1 : Fin 2) * 1280 + 1 * (y 1).val = (y 1).val; omega

/-! ## The whole gradient of the logits -/

/-- The gradient of the logit of sampled row `n` and token `t`. -/
def dzAll (A : Vec Ideal S8x16384 .f32) (C : Vec Ideal S16384x1280 .i8) (X : Vec Ideal S1536x1280 .bf16) (R : Vec Ideal S8x1536 .f32)
    (n : Fin 16384) (t : Fin 1536) : EReal :=
  R (ix2 2 t) * (if A (ix2 2 n) = R (ix2 0 t) then 0 else
    Ideal.exp ((∑ d : Fin 1280, ((C (ix2 n d)).toInt : ℝ) * X (ix2 t d)) * A (ix2 0 n) - A (ix2 1 n) - R (ix2 1 t)))

theorem dz_iblk (t : Fin cfg0.N) (r : Fin 512) (l : Fin 1536) :
    dz (iblk m c 0 t) (iblk m c 1 t) (iblk m c 2 t) (iblk m c 3 t) r l
      = dzAll (aux m c) (codes m c) (hid m c) (rows m c) (rowOf (pt t) r) l := by
  unfold dz dzAll
  rw [iblk2_eq, iblk3_eq, iblk0_at, iblk0_at, iblk0_at]
  simp only [iblk1_at]

/-- What block `t` adds to the hidden states' gradient. -/
def addend (y : S1536x1280.Idx) (t : Fin 32) : EReal :=
  ∑ r : Fin 512, dzAll (aux m c) (codes m c) (hid m c) (rows m c) (rowOf t r) (y 0) * aux m c (ix2 0 (rowOf t r)) * ((codes m c (ix2 (rowOf t r) (y 1))).toInt : ℝ)

theorem accNew_iblk (t : Fin cfg0.N) (acc : Vec Ideal S1536x1280 .f32) (y : S1536x1280.Idx) :
    accNew (iblk m c 0 t) (iblk m c 1 t) (iblk m c 2 t) (iblk m c 3 t) acc y = acc y + addend m c y (pt t) := by
  unfold accNew addend
  refine congrArg₂ (· + ·) rfl (Finset.sum_congr rfl fun r _ => ?_)
  exact congrArg₂ (· * ·) (congrArg₂ (· * ·) (dz_iblk m c t r (y 0)) (iblk0_at m c t 0 r))
    (congrArg (fun v : BitVec 8 => ((v.toInt : ℝ) : EReal)) (iblk1_at m c t r (y 1)))

theorem dw_iblk (t : Fin cfg0.N) (r : Fin 512) (d : Fin 1280) :
    ∑ l : Fin 1536, dz (iblk m c 0 t) (iblk m c 1 t) (iblk m c 2 t) (iblk m c 3 t) r l * (iblk m c 2 t : Vec Ideal S1536x1280 .bf16) (ix2 l d)
      = ∑ l : Fin 1536, dzAll (aux m c) (codes m c) (hid m c) (rows m c) (rowOf (pt t) r) l * hid m c (ix2 l d) :=
  Finset.sum_congr rfl fun l _ => congrArg₂ (· * ·) (dz_iblk m c t r l) (congrFun (iblk2_eq m c t) (ix2 l d))

/-! ## The grid's fold -/

theorem outs_dw (t : Fin cfg0.N) (r : Fin 512) (d : Fin 1280) : (outsAt0 m c t.val t.isLt).1 (ix2 r d)
    = ∑ l : Fin 1536, dzAll (aux m c) (codes m c) (hid m c) (rows m c) (rowOf (pt t) r) l * hid m c (ix2 l d) := by
  have hN : t.val < 32 := lt_of_lt_of_eq t.isLt N_0
  by_cases h0 : t.val % 32 = 0
  · simp only [outsAt0_A m c t h0 (by omega)]
    refine (out_A _ _ _ _ _ _ _ _ _ _ _ _ _ _ _ _ _ _ _ _ _ _ _ _ _ _ _ _ _ _).trans ?_
    exact dw_iblk m c t r d
  · by_cases h1 : t.val % 32 = 31
    · simp only [outsAt0_C m c t h0 h1]
      refine (out_C _ _ _ _ _ _ _ _ _ _ _ _ _ _ _ _ _ _ _ _ _ _ _ _ _ _ _ _ _ _ _).trans ?_
      exact dw_iblk m c t r d
    · simp only [outsAt0_B m c t h0 h1]
      refine (out_B _ _ _ _ _ _ _ _ _ _ _ _ _ _ _ _ _ _ _ _ _ _ _ _ _ _ _ _ _ _ _).trans ?_
      exact dw_iblk m c t r d

theorem outs_acc (y : S1536x1280.Idx) : ∀ (n : ℕ) (hn : n < cfg0.N), (outsAt0 m c n hn).2.2 y
    = dh0 m c y + ∑ k : Fin (n + 1), addend m c y ⟨k.val, by have := lt_of_lt_of_eq hn N_0; omega⟩ := by
  intro n
  induction n with
  | zero =>
    intro hn
    simp only [outsAt0_A m c ⟨0, hn⟩ rfl (by norm_num)]
    refine (sout_A _ _ _ _ _ _ _ _ _ _ _ _ _ _ _ _ _ _ _ _ _ _ _ _ _ _ _ _ _ _).trans ?_
    rw [accNew_iblk, iblk4_eq, Fin.sum_univ_one]
    rfl
  | succ n ih =>
    intro hn
    have hN : n + 1 < 32 := lt_of_lt_of_eq hn N_0
    rw [Fin.sum_univ_castSucc, ← add_assoc]
    by_cases h1 : (n + 1) % 32 = 31
    · simp only [outsAt0_C m c ⟨n + 1, hn⟩ (by show ¬(n + 1) % 32 = 0; omega) h1]
      refine (sout_C _ _ _ _ _ _ _ _ _ _ _ _ _ _ _ _ _ _ _ _ _ _ _ _ _ _ _ _ _ _ _).trans ?_
      rw [accNew_iblk]
      exact congrArg₂ (· + ·) (ih (by omega)) rfl
    · simp only [outsAt0_B m c ⟨n + 1, hn⟩ (by show ¬(n + 1) % 32 = 0; omega) h1]
      refine (sout_B _ _ _ _ _ _ _ _ _ _ _ _ _ _ _ _ _ _ _ _ _ _ _ _ _ _ _ _ _ _ _).trans ?_
      rw [accNew_iblk]
      exact congrArg₂ (· + ·) (ih (by omega)) rfl

/-- A sum over all rows, block by block. -/
theorem sum_rows (f : Fin 16384 → EReal) : ∑ t : Fin 32, ∑ r : Fin 512, f (rowOf t r) = ∑ n : Fin 16384, f n := by
  rw [← Fintype.sum_prod_type' (f := fun t r => f (rowOf t r))]
  refine Fintype.sum_equiv (finProdFinEquiv (m := 32) (n := 512)) _ _ fun p => congrArg f (Fin.ext ?_)
  show 512 * p.1.val + p.2.val = p.2.val + 512 * p.1.val
  omega

theorem outs_dh (hn : 31 < cfg0.N) (y : S1536x1280.Idx) : (outsAt0 m c 31 hn).2.1 y
    = dh0 m c y + ∑ n : Fin 16384, dzAll (aux m c) (codes m c) (hid m c) (rows m c) n (y 0) * aux m c (ix2 0 n) * ((codes m c (ix2 n (y 1))).toInt : ℝ) := by
  simp only [outsAt0_C m c ⟨31, hn⟩ (by norm_num) (by norm_num)]
  refine (out_C_last _ _ _ _ _ _ _ _ _ _ _ _ _ _ _ _ _ _ _ _ _ _ _ _ _ _ _ _ _ _ _).trans ?_
  rw [accNew_iblk, ← sum_rows]
  show (outsAt0 m c 30 _).2.2 y + _ = _
  rw [outs_acc m c y 30 (by omega), add_assoc]
  refine congrArg₂ (· + ·) rfl ?_
  exact (Fin.sum_univ_castSucc (fun t : Fin 32 => addend m c y t)).symm

end Cert.GradIdeal.Val
-- ==== Proof.GradAlg.lean ====
module

public import proofs.«01_k».proof.Defs
public import proofs.«01_k».proof.Proof.GradSum
public import proofs.«01_k».proof.Proof.Gen.RefIdeal
public import proofs.«01_k».proof.Proof.Gen.RefIdeal.Run

@[expose] public section

set_option maxRecDepth 16384

noncomputable section

namespace Cert.GradIdeal.Val

open Cert.GradIdeal Cert.GradIdeal.Gen Idealize.ShloMosaic Idealize.ShloMosaic.TcCoe Idealize.SL.Sem
open Idealize.ShloMosaic.Pipeline (Dat)

/-- The gradient of the sampled rows. -/
def dwAll (A : Vec Ideal S8x16384 .f32) (C : Vec Ideal S16384x1280 .i8) (X : Vec Ideal S1536x1280 .bf16) (R : Vec Ideal S8x1536 .f32) :
    Vec Ideal S16384x1280 .f32 := fun y => ∑ l : Fin 1536, dzAll A C X R (y 0) l * X (ix2 l (y 1))

/-- The gradient of the hidden states. -/
def dhAll (A : Vec Ideal S8x16384 .f32) (C : Vec Ideal S16384x1280 .i8) (X : Vec Ideal S1536x1280 .bf16) (R : Vec Ideal S8x1536 .f32)
    (D : Vec Ideal S1536x1280 .f32) : Vec Ideal S1536x1280 .bf16 := fun y =>
  D y + ∑ n : Fin 16384, dzAll A C X R n (y 0) * A (ix2 0 n) * ((C (ix2 n (y 1))).toInt : ℝ)

section
variable (m : (ℓ : Loc nD τ sig) → Buf (Elt Ideal) ℓ) (c : Dev nD)

/-- What the call leaves in its first result: the gradient of the sampled rows. -/
theorem G5_eq : Value.G5 m c = dwAll (aux m c) (codes m c) (hid m c) (rows m c) := by
  funext y
  have hy0 : (y 0).val < 16384 := (y 0).isLt
  have hy1 : (y 1).val < 1280 := (y 1).isLt
  have hp : Value.pt5Of y = (y 0).val / 512 := by
    show 1 * ((y 0).val / 512 - 0) + 1 * ((y 1).val / 1280 - 0) = _
    omega
  have hlt : Value.pt5Of y < cfg0.N := by rw [hp]; exact lt_of_lt_of_eq (by omega) N_0.symm
  unfold Value.G5
  rw [dif_pos hlt, ← Value.outsAt0_sweep]
  have hl : Value.loc5Of y = ix2 (⟨(y 0).val % 512, by omega⟩ : Fin 512) (y 1) := by
    funext a; apply Fin.ext
    match a with
    | ⟨0, _⟩ => rfl
    | ⟨1, _⟩ => show (y 1).val % 1280 = (y 1).val; omega
  rw [hl]
  refine (outs_dw m c ⟨Value.pt5Of y, hlt⟩ _ (y 1)).trans ?_
  have hr : rowOf (pt ⟨Value.pt5Of y, hlt⟩) (⟨(y 0).val % 512, by omega⟩ : Fin 512) = y 0 := by
    apply Fin.ext
    show 512 * Value.pt5Of y + (y 0).val % 512 = (y 0).val
    rw [hp]; omega
  rw [hr]; rfl

/-- What the call leaves in its second result: the gradient of the hidden states. -/
theorem G6_eq : Value.G6 m c = dhAll (aux m c) (codes m c) (hid m c) (rows m c) (dh0 m c) := by
  rw [Value.G6_last, ← Value.outsAt0_sweep _ _ _ (by decide +kernel)]
  funext y
  exact outs_dh m c _ y
end

end Cert.GradIdeal.Val

namespace Cert.Proof

open Idealize.ShloMosaic Idealize.SL.Sem Cert.GradIdeal.Val

/-- Widening an integer code to 32 bits before it becomes a float changes nothing. -/
theorem sitofp_code (c : BitVec 8) : FloatOps.sitofp (F := Ideal) .f32 (BitVec.signExtend 32 c) = ((c.toInt : ℝ) : EReal) := by
  show (((BitVec.signExtend 32 c).toInt : ℝ) : EReal) = _
  rw [BitVec.toInt_signExtend_of_le (by decide)]

/-- The mask that the reference writes at the hits is minus infinity. -/
theorem mask_at (i) : (constant (F := Ideal) Cert.RefIdeal.S_ .f32 0xFF800000#32) i = (⊥ : EReal) := by
  show Ideal.ieee 8 23 (0xFF800000#32) = ⊥
  unfold Ideal.ieee
  simp

/-- The logit of one token and one sampled row, with the factors in either order. -/
theorem logit_comm (a q : EReal) (f g : Fin 1280 → EReal) :
    a * (∑ k, f k * g k) - q = (∑ k, g k * f k) * a - q := by
  rw [mul_comm a, Finset.sum_congr rfl fun k _ => mul_comm (f k) (g k)]

/-- The gradient of one logit: masking the logit by minus infinity before the exponential, as the reference does, is
writing zero after it, as the call does, whatever the log-sum-exp `e`. -/
theorem dz_mask (r s t z e : EReal) {u v : EReal} (hz : z = ⊥) (h : u = v) :
    r * Ideal.exp ((if s = t then z else u) - e) = r * if t = s then 0 else Ideal.exp (v - e) := by
  rw [hz, h]
  refine congrArg (r * ·) ?_
  by_cases hst : s = t
  · rw [if_pos hst, if_pos hst.symm, sub_eq_add_neg, EReal.bot_add, Ideal.exp_bot]
  · rw [if_neg hst, if_neg (Ne.symm hst)]

/-- A sum of products and one more term, in either order. -/
theorem sum_add_comm (D : EReal) {f g : Fin 16384 → EReal} (h : ∀ n, f n = g n) : ∑ n, f n + D = D + ∑ n, g n := by
  rw [add_comm, Finset.sum_congr rfl fun n _ => h n]

/-- Equal outer factors of a product of three give equal products. -/
theorem mul3_congr (b c : EReal) {a a' c' : EReal} (h : a = a') (hc : c = c') : a * b * c = a' * b * c' := by rw [h, hc]

/-- The call and the plain reference compute the same two arrays over the extended reals. -/
theorem algebraic : Cert.algebraic_GradIdeal_RefIdeal (hGradIdeal := Cert.GradIdeal.Gen.facts) (hRefIdeal := Cert.RefIdeal.Gen.facts) := by
  intro m g m' g' _ hargs
  refine ⟨fun c => dwAll (aux m c) (codes m c) (hid m c) (rows m c), fun c => dhAll (aux m c) (codes m c) (hid m c) (rows m c) (dh0 m c), ?_, ?_⟩
  · refine (θ_run (Cert.GradIdeal.defs (F := Ideal)) _ _).mono (fun r h c => ?_) (Cert.GradIdeal.Value.run (F := Ideal) m g)
    obtain ⟨h1, h2, h⟩ := h c
    exact ⟨h1.trans (G5_eq m c), h2.trans (G6_eq m c), h⟩
  refine (θ_run (Cert.RefIdeal.defs (F := Ideal)) _ _).mono (fun r h c => ?_) (Cert.RefIdeal.Value.run (F := Ideal) m' g')
  obtain ⟨h1, h2, h⟩ := h c
  refine ⟨h1.trans ?_, h2.trans ?_, h⟩
  · rw [(hargs c).1, (hargs c).2.1, (hargs c).2.2.1, (hargs c).2.2.2.1]
    funext y
    obtain ⟨n, d, rfl⟩ : ∃ (n : Fin 16384) (d : Fin 1280), y = ix2 n d := ⟨y 0, y 1, by funext a; fin_cases a <;> rfl⟩
    pointwise []
    simp only [sitofp_code]
    exact Finset.sum_congr rfl fun l _ => congrArg (· * _) (dz_mask _ _ _ _ _ (mask_at _) (logit_comm _ _ _ _))
  · rw [(hargs c).1, (hargs c).2.1, (hargs c).2.2.1, (hargs c).2.2.2.1, (hargs c).2.2.2.2]
    funext y
    obtain ⟨n, d, rfl⟩ : ∃ (n : Fin 1536) (d : Fin 1280), y = ix2 n d := ⟨y 0, y 1, by funext a; fin_cases a <;> rfl⟩
    pointwise []
    simp only [sitofp_code]
    exact sum_add_comm _ fun l => mul3_congr _ _ (dz_mask _ _ _ _ _ (mask_at _) (logit_comm _ _ _ _)) rfl

end Cert.Proof
-- ==== Proof.FwdRun.lean ====
module

public import proofs.«01_k».proof.Proof.Gen.FwdIdeal.Frame
public import Idealize.ShloMosaic.Lib.Pipeline.Value

@[expose] public section

set_option maxRecDepth 16384

noncomputable section

namespace Cert.FwdIdeal.Val

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the implicit arguments are found by unifying the conclusion, which takes unfolding plain definitions in a metavariable's type
set_option backward.isDefEq.respectTransparency.types false in
/-- Both calls run among the host code; each result ends at the last contents of its buffer, and the arguments end as launched. -/
theorem run : θ_run (defs (F := Ideal)) (onTc (τ := τ) (main (F := Ideal))) ⟨m, fun _ => 0, ρ⟩ (fun r => ∀ c : Dev nD, r.2.mem ((c.tc : Thread nD τ).loc main_v80) = W5 m ρ c (Proc.devRef .tc main_v80) ∧ r.2.mem ((c.tc : Thread nD τ).loc main_v82) = W5 m ρ c (Proc.devRef .tc main_v82) ∧ r.2.mem ((c.tc : Thread nD τ).loc main_v77_1) = W5 m ρ c (Proc.devRef .tc main_v77_1) ∧ r.2.mem ((c.tc : Thread nD τ).loc main_v77_2) = W5 m ρ c (Proc.devRef .tc main_v77_2) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v80 (by decide)),
       h c _ (mem_uc main_v82 (by decide)),
       h c _ (mem_uc main_v77_1 (by decide)),
       h c _ (mem_uc main_v77_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.FwdIdeal.Val
-- ==== Proof.FwdMath.lean ====
module

public import Idealize.ShloMosaic.Lib.Pointwise
public import Idealize.ShloMosaic.Lib.Tactic

@[expose] public section

noncomputable section

namespace Cert.FwdMath

open Idealize.ShloMosaic

/-- A sum of real numbers. -/
theorem coe_sum {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The logarithm of the sum of two exponentials, from the larger and the smaller exponent. -/
def addExp (a b : EReal) : EReal := max a b + Ideal.log1p (Ideal.exp (min a b - max a b))

/-- The other way of writing it, with the absolute value of the difference. -/
theorem logaddexp_eq (a b : EReal) : (if a - b ≠ a - b then a + b else max a b + Ideal.log1p (Ideal.exp (-max (a - b) (-(a - b))))) = addExp a b := by
  rw [if_neg (by simp)]
  unfold addExp
  congr 3
  induction a <;> induction b <;> try simp
  rename_i x y
  rcases le_total x y with h | h
  · rw [min_eq_left (EReal.coe_le_coe_iff.2 h), max_eq_right (EReal.coe_le_coe_iff.2 h), ← EReal.coe_sub, ← EReal.coe_neg,
      max_eq_right (EReal.coe_le_coe_iff.2 (by linarith)), ← EReal.coe_neg, neg_neg]
  · rw [min_eq_right (EReal.coe_le_coe_iff.2 h), max_eq_left (EReal.coe_le_coe_iff.2 h), ← EReal.coe_sub, ← EReal.coe_neg, ← EReal.coe_sub,
      max_eq_left (EReal.coe_le_coe_iff.2 (by linarith)), ← EReal.coe_neg, neg_sub]

section
variable (A : FVec Ideal ⟨2, ![8, 16384]⟩ .f32) (C : IVec ⟨2, ![16384, 1280]⟩ 8) (X : FVec Ideal ⟨2, ![1536, 1280]⟩ .bf16)
  (T K : FVec Ideal ⟨2, ![8, 1536]⟩ .f32) (D : IVec ⟨2, ![1536, 1280]⟩ 8)

/-- The logit of sampled row `n` for token `t`, minus infinity where the row is the token's own. -/
def zAll (n : Fin 16384) (t : Fin 1536) : EReal :=
  if A (ix2 2 n) = T (ix2 0 t) then ⊥ else (∑ d : Fin 1280, ((C (ix2 n d)).toInt : ℝ) * X (ix2 t d)) * A (ix2 0 n) - A (ix2 1 n)

/-- The logit of token `t`'s own row. -/
def zTok (t : Fin 1536) : EReal := K (ix2 0 t) * (∑ d : Fin 1280, X (ix2 t d) * ((D (ix2 t d)).toInt : ℝ)) - K (ix2 1 t)

/-- The log-sum-exp of token `t` over its own row and the sampled rows. -/
def lse (t : Fin 1536) : EReal := addExp (zTok X K D t) (Ideal.log (∑ n : Fin 16384, Ideal.exp (zAll A C X T n t)))

/-- The gradient of token `t`'s own logit. -/
def dzTok (t : Fin 1536) : EReal := K (ix2 2 t) * (Ideal.exp (zTok X K D t - lse A C X T K D t) - 1)

/-- The log-sum-exps of the tokens. -/
def lseAll : FVec Ideal ⟨1, ![1536]⟩ .f32 := fun y => lse A C X T K D (y 0)

/-- The losses of the tokens. -/
def lossAll : FVec Ideal ⟨1, ![1536]⟩ .f32 := fun y => lse A C X T K D (y 0) - zTok X K D (y 0)

/-- The log-sum-exp in row 0, the loss in row 1, zeros below. -/
def tokAll : FVec Ideal ⟨2, ![8, 1536]⟩ .f32 := fun y =>
  if (y 0).val = 0 then lse A C X T K D (y 1) else if (y 0).val = 1 then lse A C X T K D (y 1) - zTok X K D (y 1) else 0

/-- The own rows' part of the hidden states' gradient. -/
def dhTok : FVec Ideal ⟨2, ![1536, 1280]⟩ .f32 := fun y => dzTok A C X T K D (y 0) * K (ix2 0 (y 0)) * ((D y).toInt : ℝ)

/-- The gradient of the own rows. -/
def dwTok : FVec Ideal ⟨2, ![1536, 1280]⟩ .f32 := fun y => dzTok A C X T K D (y 0) * X y
/-- The stacked arrays hold, row by row, the gathered parameters, the identifiers and the loss gradient. -/
structure Prep (sc lq : FVec Ideal ⟨1, ![16384]⟩ .f32) (ids : IVec ⟨1, ![16384]⟩ 32) (tgt : IVec ⟨1, ![1536]⟩ 32) (sct lqt g : FVec Ideal ⟨1, ![1536]⟩ .f32) : Prop where
  scale (n : Fin 16384) : A (ix2 0 n) = sc (ix1 n)
  logq (n : Fin 16384) : A (ix2 1 n) = lq (ix1 n)
  ident (n : Fin 16384) : A (ix2 2 n) = (((ids (ix1 n)).toInt : ℝ) : EReal)
  target (t : Fin 1536) : T (ix2 0 t) = (((tgt (ix1 t)).toInt : ℝ) : EReal)
  scaleT (t : Fin 1536) : K (ix2 0 t) = sct (ix1 t)
  logqT (t : Fin 1536) : K (ix2 1 t) = lqt (ix1 t)
  grad (t : Fin 1536) : K (ix2 2 t) = g (ix1 t)
end

end Cert.FwdMath
-- ==== Proof.FwdPay.lean ====
module

public import proofs.«01_k».proof.Proof.Gen.FwdIdeal.Frame
public import proofs.«01_k».proof.Proof.FwdMath
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.FwdIdeal.Val

open Cert.FwdIdeal Cert.FwdIdeal.Gen Cert.FwdMath Idealize.ShloMosaic Idealize.ShloMosaic.TcCoe Idealize.SL.Sem

theorem hz : (![0, 0] : Fin 2 → Nat) = fun _ => 0 := funext fun a => by fin_cases a <;> rfl

/-- Row `8 k + r` of a block of 512 rows. -/
def row (k : Fin 64) (r : Fin 8) : Fin 512 := ⟨k * 8 + r, by omega⟩

/-- The pattern of minus infinity. -/
theorem neg_inf : Ideal.ofBits .f32 0xFF800000#32 = ⊥ := by
  simp [Ideal.ofBits, Ideal.ieee]

/-- The value the running maximum starts from. -/
def start : ℝ := (Ideal.ofBits .f32 0xF149F2CA#32).toReal

theorem start_eq : Ideal.ofBits .f32 0xF149F2CA#32 = (start : EReal) := by
  refine (EReal.coe_toReal ?_ ?_).symm <;> simp [Ideal.ofBits, Ideal.ieee, -EReal.coe_mul]

/-- A maximum taken from minus infinity on. -/
theorem fold_max {n : ℕ} (f : Fin n → EReal) : Finset.fold max (Ideal.ofBits .f32 0xFF800000#32) f Finset.univ = Finset.univ.sup f := by
  rw [neg_inf]; rfl

/-- The logit of row `q` of a block for token `t`; the token's own row is left out of the sum. -/
def z (A : Vec Ideal S8x512 .f32) (C : Vec Ideal S512x1280 .i8) (X : Vec Ideal S1536x1280 .bf16) (T : Vec Ideal S8x1536 .f32)
    (q : Fin 512) (t : Fin 1536) : EReal :=
  if A (ix2 2 q) = T (ix2 0 t) then ⊥ else (∑ d : Fin 1280, ((C (ix2 q d)).toInt : ℝ) * X (ix2 t d)) * A (ix2 0 q) - A (ix2 1 q)

theorem logit_at (A : Vec Ideal S8x512 .f32) (C : Vec Ideal S512x1280 .i8) (X : Vec Ideal S1536x1280 .bf16) (T : Vec Ideal S8x1536 .f32)
    (X' : Vec Ideal S256x1280 .bf16) (T0 : Vec Ideal S1x256 .f32) (k : Fin 64) (r : Fin 8) (l : Fin 256) (t : Fin 1536)
    (hX : ∀ d : Fin 1280, X' (ix2 l d) = X (ix2 t d)) (h0 : T0 (ix2 0 l) = T (ix2 0 t)) :
    k0_pay10 A (k0_pay5 C) X' T0 (ix3 k r l) = z A C X T (row k r) t := by
  unfold z row
  pointwise [k0_pay10, k0_pay5, k0_pay6, k0_pay7, k0_pay8, k0_pay9]
  rw [h0]
  simp only [hX]
  rfl

theorem max_at (A : Vec Ideal S8x512 .f32) (C : Vec Ideal S512x1280 .bf16)
    (X' : Vec Ideal S256x1280 .bf16) (T0 : Vec Ideal S1x256 .f32) (M : Vec Ideal S1x8x256 .f32) (r : Fin 8) (l : Fin 256) :
    k0_pay13 (k0_pay11 M) (k0_pay12 A C X' T0) (ix2 r l) = max (M (ix3 0 r l)) (Finset.univ.sup fun k : Fin 64 => k0_pay10 A C X' T0 (ix3 k r l)) := by
  pointwise [k0_pay13, k0_pay11, k0_pay12]
  rw [fold_max]

theorem sum_at (A : Vec Ideal S8x512 .f32) (C : Vec Ideal S512x1280 .bf16)
    (X' : Vec Ideal S256x1280 .bf16) (T0 : Vec Ideal S1x256 .f32) (M L : Vec Ideal S1x8x256 .f32) (r : Fin 8) (l : Fin 256) :
    k0_pay14 (k0_pay10 A C X' T0) (k0_pay11 M) (k0_pay12 A C X' T0) L (ix3 0 r l)
      = L (ix3 0 r l) * Ideal.exp (M (ix3 0 r l) - k0_pay13 (k0_pay11 M) (k0_pay12 A C X' T0) (ix2 r l))
        + ∑ k : Fin 64, Ideal.exp (k0_pay10 A C X' T0 (ix3 k r l) - k0_pay13 (k0_pay11 M) (k0_pay12 A C X' T0) (ix2 r l)) := by
  pointwise [k0_pay14, k0_pay11]

/-! ## Every block of tokens does the same -/

section
variable (A : Vec Ideal S8x512 .f32) (C : Vec Ideal S512x1280 .bf16) (X' : Vec Ideal S256x1280 .bf16) (T0 : Vec Ideal S1x256 .f32) (M L : Vec Ideal S1x8x256 .f32)

theorem sum_block1 : k0_pay20 (k0_pay16 (k0_pay7 A) (k0_pay8 A) (k0_pay9 A) C X' T0) (k0_pay17 M) (k0_pay18 (k0_pay7 A) (k0_pay8 A) (k0_pay9 A) C X' T0 M) (k0_pay19 (k0_pay7 A) (k0_pay8 A) (k0_pay9 A) C X' T0 M) L = k0_pay14 (k0_pay10 A C X' T0) (k0_pay11 M) (k0_pay12 A C X' T0) L := rfl
theorem max_block1 : k0_pay21 (k0_pay18 (k0_pay7 A) (k0_pay8 A) (k0_pay9 A) C X' T0 M) = k0_pay15 (k0_pay11 M) (k0_pay12 A C X' T0) := rfl

theorem sum_block2 : k0_pay26 (k0_pay23 M) (k0_pay24 (k0_pay7 A) (k0_pay8 A) (k0_pay9 A) C X' T0 M) (k0_pay25 (k0_pay7 A) (k0_pay8 A) (k0_pay9 A) C X' T0 M) L = k0_pay14 (k0_pay10 A C X' T0) (k0_pay11 M) (k0_pay12 A C X' T0) L := rfl
theorem max_block2 : k0_pay27 (k0_pay24 (k0_pay7 A) (k0_pay8 A) (k0_pay9 A) C X' T0 M) = k0_pay15 (k0_pay11 M) (k0_pay12 A C X' T0) := rfl

theorem sum_block3 : k0_pay32 (k0_pay29 M) (k0_pay30 (k0_pay7 A) (k0_pay8 A) (k0_pay9 A) C X' T0 M) (k0_pay31 (k0_pay7 A) (k0_pay8 A) (k0_pay9 A) C X' T0 M) L = k0_pay14 (k0_pay10 A C X' T0) (k0_pay11 M) (k0_pay12 A C X' T0) L := rfl
theorem max_block3 : k0_pay33 (k0_pay30 (k0_pay7 A) (k0_pay8 A) (k0_pay9 A) C X' T0 M) = k0_pay15 (k0_pay11 M) (k0_pay12 A C X' T0) := rfl

theorem sum_block4 : k0_pay38 (k0_pay35 M) (k0_pay36 (k0_pay7 A) (k0_pay8 A) (k0_pay9 A) C X' T0 M) (k0_pay37 (k0_pay7 A) (k0_pay8 A) (k0_pay9 A) C X' T0 M) L = k0_pay14 (k0_pay10 A C X' T0) (k0_pay11 M) (k0_pay12 A C X' T0) L := rfl
theorem max_block4 : k0_pay39 (k0_pay36 (k0_pay7 A) (k0_pay8 A) (k0_pay9 A) C X' T0 M) = k0_pay15 (k0_pay11 M) (k0_pay12 A C X' T0) := rfl

theorem sum_block5 : k0_pay1 (k0_pay41 M) (k0_pay42 (k0_pay7 A) (k0_pay8 A) (k0_pay9 A) C X' T0 M) (k0_pay43 (k0_pay7 A) (k0_pay8 A) (k0_pay9 A) C X' T0 M) L = k0_pay14 (k0_pay10 A C X' T0) (k0_pay11 M) (k0_pay12 A C X' T0) L := rfl
theorem max_block5 : k0_pay2 (k0_pay42 (k0_pay7 A) (k0_pay8 A) (k0_pay9 A) C X' T0 M) = k0_pay15 (k0_pay11 M) (k0_pay12 A C X' T0) := rfl

end

theorem store_at (a b : FVec Ideal S8x256 .f32) (r : Fin 8) (l : Fin 256) : k0_pay15 a b (ix3 0 r l) = k0_pay13 a b (ix2 r l) := by
  pointwise [k0_pay15]

theorem start_at (r : Fin 8) (t : Fin 1536) : k0_pay3 (F := Ideal) (ix3 0 r t) = (start : EReal) := by
  pointwise [k0_pay3]
  exact start_eq

theorem zero_at (r : Fin 8) (t : Fin 1536) : k0_pay4 (F := Ideal) (ix3 0 r t) = 0 := by
  pointwise [k0_pay4]

theorem p10_at (s lq : Vec Ideal S1x1536 .f32) (X : Vec Ideal S1536x1280 .bf16) (C : Vec Ideal S1536x1280 .i8) (t : Fin 1536) :
    k1_pay10 s lq X C (ix2 0 t) = s (ix2 0 t) * (∑ d : Fin 1280, X (ix2 t d) * ((C (ix2 t d)).toInt : ℝ)) - lq (ix2 0 t) := by
  pointwise [k1_pay10, k1_pay6, k1_pay8, k1_pay9]
  rfl

theorem p11_at (s lq : Vec Ideal S1x1536 .f32) (X : Vec Ideal S1536x1280 .bf16) (C : Vec Ideal S1536x1280 .i8) (M L : Vec Ideal S1x8x1536 .f32) (t : Fin 1536) :
    k1_pay11 s lq X C M L (ix2 0 t) = addExp (k1_pay10 s lq X C (ix2 0 t)) ((Finset.univ.sup fun r : Fin 8 => M (ix3 0 r t)) +
      Ideal.log (∑ r : Fin 8, L (ix3 0 r t) * Ideal.exp (M (ix3 0 r t) - Finset.univ.sup fun r : Fin 8 => M (ix3 0 r t)))) := by
  pointwise [k1_pay11, addExp]
  simp only [fold_max]
theorem p2_at (a b : FVec Ideal S1x1536 .f32) (t : Fin 1536) : k1_pay2 a b (ix2 0 t) = b (ix2 0 t) - a (ix2 0 t) := by
  pointwise [k1_pay2]
theorem p3_at (r : Fin 6) (t : Fin 1536) : k1_pay3 (F := Ideal) (ix2 r t) = 0 := by
  pointwise [k1_pay3]
theorem p4_at (g : Vec Ideal S1x1536 .f32) (X : Vec Ideal S1536x1280 .bf16) (z l : FVec Ideal S1x1536 .f32) (t : Fin 1536) (d : Fin 1280) :
   k1_pay4 (k1_pay7 g) (k1_pay8 X) z l (ix2 t d) = g (ix2 0 t) * (Ideal.exp (z (ix2 0 t) - l (ix2 0 t)) - 1) * X (ix2 t d) := by
  pointwise [k1_pay4, k1_pay7, k1_pay8, k1_pay1]
theorem p5_at (s g : Vec Ideal S1x1536 .f32) (C : Vec Ideal S1536x1280 .i8) (z l : FVec Ideal S1x1536 .f32) (t : Fin 1536) (d : Fin 1280) :
   k1_pay5 (k1_pay6 s) (k1_pay7 g) (k1_pay9 C) z l (ix2 t d) = g (ix2 0 t) * (Ideal.exp (z (ix2 0 t) - l (ix2 0 t)) - 1) * s (ix2 0 t) * ((C (ix2 t d)).toInt : ℝ) := by
  pointwise [k1_pay5, k1_pay6, k1_pay7, k1_pay9, k1_pay1]
  rfl

end Cert.FwdIdeal.Val
-- ==== Proof.FwdVal.lean ====
module

public import proofs.«01_k».proof.Proof.FwdPay

@[expose] public section

set_option maxRecDepth 16384

noncomputable section

namespace Cert.FwdIdeal.Val

open Cert.FwdIdeal Cert.FwdIdeal.Gen Idealize.ShloMosaic Idealize.ShloMosaic.TcCoe Idealize.SL.Sem

/-- The running maximum after a block of rows. -/
def newM (A : Vec Ideal S8x512 .f32) (C : Vec Ideal S512x1280 .i8) (X : Vec Ideal S1536x1280 .bf16) (T : Vec Ideal S8x1536 .f32)
    (acc : Vec Ideal S2x8x1536 .f32) (r : Fin 8) (t : Fin 1536) : EReal :=
  max (acc (ix3 0 r t)) (Finset.univ.sup fun k : Fin 64 => z A C X T (row k r) t)

/-- The running sum after a block of rows. -/
def newL (A : Vec Ideal S8x512 .f32) (C : Vec Ideal S512x1280 .i8) (X : Vec Ideal S1536x1280 .bf16) (T : Vec Ideal S8x1536 .f32)
    (acc : Vec Ideal S2x8x1536 .f32) (r : Fin 8) (t : Fin 1536) : EReal :=
  acc (ix3 1 r t) * Ideal.exp (acc (ix3 0 r t) - newM A C X T acc r t) + ∑ k : Fin 64, Ideal.exp (z A C X T (row k r) t - newM A C X T acc r t)

/-- The running maxima and sums after a block of rows. -/
def step (A : Vec Ideal S8x512 .f32) (C : Vec Ideal S512x1280 .i8) (X : Vec Ideal S1536x1280 .bf16) (T : Vec Ideal S8x1536 .f32)
    (acc : Vec Ideal S2x8x1536 .f32) : Vec Ideal S2x8x1536 .f32 := fun y =>
  if (y 0).val = 0 then newM A C X T acc (y 1) (y 2) else newL A C X T acc (y 1) (y 2)

/-- The running maxima and sums before the first block. -/
def init : Vec Ideal S2x8x1536 .f32 := fun y => if (y 0).val = 0 then (start : EReal) else 0

section
variable (A : Vec Ideal S8x512 .f32) (C : Vec Ideal S512x1280 .i8) (X : Vec Ideal S1536x1280 .bf16) (T : Vec Ideal S8x1536 .f32)
    (acc : Vec Ideal S2x8x1536 .f32) (o : ℕ) (ho : o + 256 ≤ 1536) (i1 : ∀ a, (![o, 0] : Fin 2 → ℕ) a + S256x1280.size a ≤ S1536x1280.size a)
    (i2 : ∀ a, (![0, o] : Fin 2 → ℕ) a + S1x256.size a ≤ S8x1536.size a)
    (i3 : ∀ a, (![0, 0, o] : Fin 3 → ℕ) a + S1x8x256.size a ≤ S2x8x1536.size a)
    (i4 : ∀ a, (![1, 0, o] : Fin 3 → ℕ) a + S1x8x256.size a ≤ S2x8x1536.size a)
include ho

theorem z_block (k : Fin 64) (r : Fin 8) (l : Fin 256) :
    k0_pay10 A (k0_pay5 C) (View.ld (S := S1536x1280) (e' := .bf16) X (Rect.unit ![o, 0] S256x1280.size i1))
      (View.ld (S := S8x1536) (e' := .f32) T (Rect.unit ![0, o] S1x256.size i2)) (ix3 k r l) = z A C X T (row k r) ⟨o + l, by omega⟩ := by
  refine logit_at A C X T _ _ k r l _ (fun d => ?_) ?_ <;>
    refine View.ld_unit_apply_of _ _ _ _ _ _ fun a => ?_ <;> fin_cases a <;> simp [ix2]

theorem m_block (r : Fin 8) (l : Fin 256) :
    k0_pay13 (k0_pay11 (View.ld (S := S2x8x1536) (e' := .f32) acc (Rect.unit ![0, 0, o] S1x8x256.size i3))) (k0_pay12 A (k0_pay5 C) (View.ld (S := S1536x1280) (e' := .bf16) X (Rect.unit ![o, 0] S256x1280.size i1))
      (View.ld (S := S8x1536) (e' := .f32) T (Rect.unit ![0, o] S1x256.size i2))) (ix2 r l) = newM A C X T acc r ⟨o + l, by omega⟩ := by
  refine (max_at _ _ _ _ _ r l).trans ?_
  unfold newM
  simp only [z_block A C X T o ho]
  congr 1
  refine View.ld_unit_apply_of _ _ _ _ _ _ fun a => ?_
  fin_cases a <;> simp [ix3]

theorem l_block (r : Fin 8) (l : Fin 256) :
    k0_pay14 (k0_pay10 A (k0_pay5 C) (View.ld (S := S1536x1280) (e' := .bf16) X (Rect.unit ![o, 0] S256x1280.size i1))
      (View.ld (S := S8x1536) (e' := .f32) T (Rect.unit ![0, o] S1x256.size i2))) (k0_pay11 (View.ld (S := S2x8x1536) (e' := .f32) acc (Rect.unit ![0, 0, o] S1x8x256.size i3)))
      (k0_pay12 A (k0_pay5 C) (View.ld (S := S1536x1280) (e' := .bf16) X (Rect.unit ![o, 0] S256x1280.size i1))
      (View.ld (S := S8x1536) (e' := .f32) T (Rect.unit ![0, o] S1x256.size i2)))
      (View.ld (S := S2x8x1536) (e' := .f32) acc (Rect.unit ![1, 0, o] S1x8x256.size i4)) (ix3 0 r l) = newL A C X T acc r ⟨o + l, by omega⟩ := by
  refine (sum_at _ _ _ _ _ _ r l).trans ?_
  unfold newL
  simp only [z_block A C X T o ho, m_block A C X T acc o ho]
  rw [View.ld_unit_apply_of acc ![0, 0, o] S1x8x256.size i3 (ix3 0 r l) (ix3 (0 : Fin 2) r (⟨o + l, by omega⟩ : Fin 1536)) (fun a => by fin_cases a <;> simp [ix3]),
    View.ld_unit_apply_of acc ![1, 0, o] S1x8x256.size i4 (ix3 0 r l) (ix3 (1 : Fin 2) r (⟨o + l, by omega⟩ : Fin 1536)) (fun a => by fin_cases a <;> simp [ix3])]

/-- One block of tokens of the stored running maxima. -/
theorem m_piece (x : (Rect.unit (s := S2x8x1536) ![0, 0, o] S1x8x256.size i3).shape.Idx) :
    k0_pay15 (F := Ideal) (k0_pay11 (View.ld (S := S2x8x1536) (e' := .f32) acc (Rect.unit ![0, 0, o] S1x8x256.size i3))) (k0_pay12 A (k0_pay5 C) (View.ld (S := S1536x1280) (e' := .bf16) X (Rect.unit ![o, 0] S256x1280.size i1))
      (View.ld (S := S8x1536) (e' := .f32) T (Rect.unit ![0, o] S1x256.size i2))) x
      = step A C X T acc ((Rect.unit (s := S2x8x1536) ![0, 0, o] S1x8x256.size i3).emb x) := by
  obtain ⟨q, r, l, rfl⟩ : ∃ (q : Fin 1) (r : Fin 8) (l : Fin 256), x = (ix3 q r l : S1x8x256.Idx) := ⟨x 0, x 1, x 2, by funext a; fin_cases a <;> rfl⟩
  obtain rfl : q = 0 := Subsingleton.elim _ _
  have he : (Rect.unit (s := S2x8x1536) ![0, 0, o] S1x8x256.size i3).emb (ix3 0 r l : S1x8x256.Idx) = ix3 (0 : Fin 2) r (⟨o + l, by omega⟩ : Fin 1536) := by
    funext a; ext; refine (Rect.idx_unit_val _ _ _ _ _).trans ?_; fin_cases a <;> simp [ix3]
  rw [he]
  exact ((store_at _ _ r l).trans (m_block A C X T acc o ho i1 i2 i3 r l)).trans rfl

/-- One block of tokens of the stored running sums. -/
theorem l_piece (x : (Rect.unit (s := S2x8x1536) ![1, 0, o] S1x8x256.size i4).shape.Idx) :
    k0_pay14 (F := Ideal) (k0_pay10 A (k0_pay5 C) (View.ld (S := S1536x1280) (e' := .bf16) X (Rect.unit ![o, 0] S256x1280.size i1))
      (View.ld (S := S8x1536) (e' := .f32) T (Rect.unit ![0, o] S1x256.size i2))) (k0_pay11 (View.ld (S := S2x8x1536) (e' := .f32) acc (Rect.unit ![0, 0, o] S1x8x256.size i3)))
      (k0_pay12 A (k0_pay5 C) (View.ld (S := S1536x1280) (e' := .bf16) X (Rect.unit ![o, 0] S256x1280.size i1))
      (View.ld (S := S8x1536) (e' := .f32) T (Rect.unit ![0, o] S1x256.size i2)))
      (View.ld (S := S2x8x1536) (e' := .f32) acc (Rect.unit ![1, 0, o] S1x8x256.size i4)) x
      = step A C X T acc ((Rect.unit (s := S2x8x1536) ![1, 0, o] S1x8x256.size i4).emb x) := by
  obtain ⟨q, r, l, rfl⟩ : ∃ (q : Fin 1) (r : Fin 8) (l : Fin 256), x = (ix3 q r l : S1x8x256.Idx) := ⟨x 0, x 1, x 2, by funext a; fin_cases a <;> rfl⟩
  obtain rfl : q = 0 := Subsingleton.elim _ _
  have he : (Rect.unit (s := S2x8x1536) ![1, 0, o] S1x8x256.size i4).emb (ix3 0 r l : S1x8x256.Idx) = ix3 (1 : Fin 2) r (⟨o + l, by omega⟩ : Fin 1536) := by
    funext a; ext; refine (Rect.idx_unit_val _ _ _ _ _).trans ?_; fin_cases a <;> simp [ix3]
  rw [he]
  exact (l_block A C X T acc o ho i1 i2 i3 i4 r l).trans rfl
end

/-- A load does not see a store to columns left of it. -/
theorem readCov_left {κ : Kind} {sp : Space} (v : View sig κ sp S2x8x1536 .f32) (a a' o o' : ℕ) (i1 i2) (w) (L : List (View.Piece (Elt Ideal) S2x8x1536 .f32))
    (h : o + 256 ≤ o') : v.readCov (⟨Rect.unit (s := S2x8x1536) ![a, 0, o] ![1, 8, 256] i1, w⟩ :: L) (Rect.unit (s := S2x8x1536) ![a', 0, o'] ![1, 8, 256] i2).toLoadRect
      = v.readCov L (Rect.unit (s := S2x8x1536) ![a', 0, o'] ![1, 8, 256] i2).toLoadRect := by
  refine View.readCov_cons_of_disjoint _ _ _ _ (Finset.disjoint_left.mpr fun y hy hy' => ?_)
  obtain ⟨x, rfl⟩ := LoadRect.exists_idx_of_mem _ hy
  obtain ⟨x', hx⟩ := LoadRect.exists_idx_of_mem _ hy'
  have h1 := Rect.idx_unit_val _ _ i1 x 2
  have h2 := Rect.idx_unit_val _ _ i2 x' 2
  have h3 : (x 2 : ℕ) < 256 := (x 2).isLt
  rw [hx] at h2
  simp at h1 h2
  omega

/-- A load of the maxima does not see a store to the sums, nor the other way round. -/
theorem readCov_other {κ : Kind} {sp : Space} (v : View sig κ sp S2x8x1536 .f32) (a a' o o' : ℕ) (i1 i2) (w) (L : List (View.Piece (Elt Ideal) S2x8x1536 .f32))
    (h : a ≠ a') : v.readCov (⟨Rect.unit (s := S2x8x1536) ![a, 0, o] ![1, 8, 256] i1, w⟩ :: L) (Rect.unit (s := S2x8x1536) ![a', 0, o'] ![1, 8, 256] i2).toLoadRect
      = v.readCov L (Rect.unit (s := S2x8x1536) ![a', 0, o'] ![1, 8, 256] i2).toLoadRect := by
  refine View.readCov_cons_of_disjoint _ _ _ _ (Finset.disjoint_left.mpr fun y hy hy' => ?_)
  obtain ⟨x, rfl⟩ := LoadRect.exists_idx_of_mem _ hy
  obtain ⟨x', hx⟩ := LoadRect.exists_idx_of_mem _ hy'
  have h1 := Rect.idx_unit_val _ _ i1 x 0
  have h2 := Rect.idx_unit_val _ _ i2 x' 0
  have h3 : (x 0 : ℕ) < 1 := (x 0).isLt
  have h4 : (x' 0 : ℕ) < 1 := (x' 0).isLt
  rw [hx] at h2
  simp at h1 h2
  omega

/-- The two first stores hold every index. -/
theorem cover_init (i1 i2) (y : S2x8x1536.Idx) : ∃ p ∈ [(⟨Rect.unit (s := S2x8x1536) ![1, 0, 0] ![1, 8, 1536] i1, k0_pay4 (F := Ideal)⟩ : View.Piece (Elt Ideal) S2x8x1536 .f32),
    ⟨Rect.unit (s := S2x8x1536) ![0, 0, 0] ![1, 8, 1536] i2, k0_pay3 (F := Ideal)⟩], y ∈ p.1.set := by
  have h0 : (y 0 : ℕ) < 2 := (y 0).isLt
  have h1 : (y 1 : ℕ) < 8 := (y 1).isLt
  have h2 : (y 2 : ℕ) < 1536 := (y 2).isLt
  rcases Nat.eq_zero_or_pos (y 0 : ℕ) with h | h
  · refine ⟨_, List.mem_cons_of_mem _ List.mem_cons_self, ?_⟩
    refine (Rect.mem_set_unit (inb := i2)).mpr ?_
    intro a
    match a with
    | ⟨0, _⟩ => show 0 ≤ (y 0 : ℕ) ∧ (y 0 : ℕ) < 0 + 1; omega
    | ⟨1, _⟩ => show 0 ≤ (y 1 : ℕ) ∧ (y 1 : ℕ) < 0 + 8; omega
    | ⟨2, _⟩ => show 0 ≤ (y 2 : ℕ) ∧ (y 2 : ℕ) < 0 + 1536; omega
  · refine ⟨_, List.mem_cons_self, ?_⟩
    refine (Rect.mem_set_unit (inb := i1)).mpr ?_
    intro a
    match a with
    | ⟨0, _⟩ => show 1 ≤ (y 0 : ℕ) ∧ (y 0 : ℕ) < 1 + 1; omega
    | ⟨1, _⟩ => show 0 ≤ (y 1 : ℕ) ∧ (y 1 : ℕ) < 0 + 8; omega
    | ⟨2, _⟩ => show 0 ≤ (y 2 : ℕ) ∧ (y 2 : ℕ) < 0 + 1536; omega

/-- The first store of the sums. -/
theorem init_piece1 (i1) (x : (Rect.unit (s := S2x8x1536) ![1, 0, 0] ![1, 8, 1536] i1).shape.Idx) :
    k0_pay4 (F := Ideal) x = init ((Rect.unit (s := S2x8x1536) ![1, 0, 0] ![1, 8, 1536] i1).emb x) := by
  obtain ⟨q, r, l, rfl⟩ : ∃ (q : Fin 1) (r : Fin 8) (l : Fin 1536), x = (ix3 q r l : S1x8x1536.Idx) := ⟨x 0, x 1, x 2, by funext a; fin_cases a <;> rfl⟩
  obtain rfl : q = 0 := Subsingleton.elim _ _
  have he : (Rect.unit (s := S2x8x1536) ![1, 0, 0] S1x8x1536.size i1).emb (ix3 0 r l : S1x8x1536.Idx) = ix3 (1 : Fin 2) r l := by
    funext a; ext; refine (Rect.idx_unit_val _ _ _ _ _).trans ?_; fin_cases a <;> simp [ix3]
  exact ((zero_at r l).trans rfl).trans (congrArg init he).symm

/-- The first store of the maxima. -/
theorem init_piece0 (i1) (x : (Rect.unit (s := S2x8x1536) ![0, 0, 0] ![1, 8, 1536] i1).shape.Idx) :
    k0_pay3 (F := Ideal) x = init ((Rect.unit (s := S2x8x1536) ![0, 0, 0] ![1, 8, 1536] i1).emb x) := by
  obtain ⟨q, r, l, rfl⟩ : ∃ (q : Fin 1) (r : Fin 8) (l : Fin 1536), x = (ix3 q r l : S1x8x1536.Idx) := ⟨x 0, x 1, x 2, by funext a; fin_cases a <;> rfl⟩
  obtain rfl : q = 0 := Subsingleton.elim _ _
  have he : (Rect.unit (s := S2x8x1536) ![0, 0, 0] S1x8x1536.size i1).emb (ix3 0 r l : S1x8x1536.Idx) = ix3 (0 : Fin 2) r l := by
    funext a; ext; refine (Rect.idx_unit_val _ _ _ _ _).trans ?_; fin_cases a <;> simp [ix3]
  exact ((start_at r l).trans rfl).trans (congrArg init he).symm

/-- A load after the two first stores. -/
theorem readCov_init {κ : Kind} {sp : Space} (v : View sig κ sp S2x8x1536 .f32) (a o : ℕ) (i1 i2 i3) :
    v.readCov [(⟨Rect.unit (s := S2x8x1536) ![1, 0, 0] ![1, 8, 1536] i1, k0_pay4 (F := Ideal)⟩ : View.Piece (Elt Ideal) S2x8x1536 .f32),
      ⟨Rect.unit (s := S2x8x1536) ![0, 0, 0] ![1, 8, 1536] i2, k0_pay3 (F := Ideal)⟩] (Rect.unit (s := S2x8x1536) ![a, 0, o] ![1, 8, 256] i3).toLoadRect
      = View.ld (Val := Elt Ideal) (e' := .f32) init (Rect.unit (s := S2x8x1536) ![a, 0, o] ![1, 8, 256] i3) := by
  rw [View.readCov_eq_canon_ld _ _ _ (cover_init i1 i2)]
  refine congrArg (fun X => View.ld (Val := Elt Ideal) (e' := .f32) X (Rect.unit (s := S2x8x1536) ![a, 0, o] ![1, 8, 256] i3)) (funext fun y => ?_)
  refine View.canon_apply_of_pieces (S := S2x8x1536) (Val := Elt Ideal) (e := .f32) init _ (View.PiecesOf.mem ?_) _ (cover_init i1 i2 y)
  exact ⟨init_piece1 i1, init_piece0 i2, trivial⟩

/-- Twelve stores, later than those of `L'`, read back where one of them holds the index. -/
theorem canon_twelve (G : Vec Ideal S2x8x1536 .f32) (p1 p2 p3 p4 p5 p6 p7 p8 p9 p10 p11 p12 : View.Piece (Elt Ideal) S2x8x1536 .f32) (L' : List (View.Piece (Elt Ideal) S2x8x1536 .f32))
    (h : View.PiecesOf (Val := Elt Ideal) G [p1, p2, p3, p4, p5, p6, p7, p8, p9, p10, p11, p12]) (y : S2x8x1536.Idx) (hc : ∃ p ∈ [p1, p2, p3, p4, p5, p6, p7, p8, p9, p10, p11, p12], y ∈ p.1.set) :
    View.canon (p1 :: p2 :: p3 :: p4 :: p5 :: p6 :: p7 :: p8 :: p9 :: p10 :: p11 :: p12 :: L') y = G y :=
  View.canon_append_of_piecesOf G L' [p1, p2, p3, p4, p5, p6, p7, p8, p9, p10, p11, p12] h y hc

section
variable (c : Dev nD) (i : grid0.Coords) (arg1 : Memref sig .tc .vmem S8x512 .f32) (harg1 : arg1.IsWhole) (arg2 : Memref sig .tc .vmem S512x1280 .i8) (harg2 : arg2.IsWhole) (arg3 : Memref sig .tc .vmem S1536x1280 .bf16) (harg3 : arg3.IsWhole) (arg4 : Memref sig .tc .vmem S8x1536 .f32) (harg4 : arg4.IsWhole) (arg5 : Memref sig .tc .vmem S2x8x1536 .f32) (harg5 : arg5.IsWhole) (arg6 : Memref sig .tc .vmem S512x1280 .bf16) (harg6 : arg6.IsWhole) (hc0 : ¬cond0_0 i)
    (x0 : Vec Ideal S8x512 .f32) (x1 : Vec Ideal S512x1280 .i8) (x2 : Vec Ideal S1536x1280 .bf16) (x3 : Vec Ideal S8x1536 .f32) (xo4 : Vec Ideal S2x8x1536 .f32)

/-- What a grid point after the first leaves. -/
theorem out_B (y) : out0_B_4 c i arg1 harg1 arg2 harg2 arg3 harg3 arg4 harg4 arg5 harg5 arg6 harg6 hc0 x0 x1 x2 x3 xo4 y = step x0 x1 x2 x3 xo4 y := by
  unfold out0_B_4
  rw [View.read_writes_eq_canon _ _ _ (cover0_B_4 c i arg1 harg1 arg2 harg2 arg3 harg3 arg4 harg4 arg5 harg5 arg6 harg6 hc0 x0 x1 x2 x3 xo4)]
  unfold kernelRun0_B
  dsimp only
  sl_unfold_words
  simp only [View.readAt_eq_ld, harg1.read_unread, harg2.read_unread, harg3.read_unread, harg4.read_unread, harg5.read_unread,
    View.ld_unit_zero (S := S8x512) hz, View.ld_unit_zero (S := S512x1280) hz, View.ld_unit_zero (S := S1536x1280) hz, View.readCov_unit_zero (S := S512x1280) _ hz]
  simp only [sum_block1, max_block1, sum_block2, max_block2, sum_block3, max_block3, sum_block4, max_block4, sum_block5, max_block5]
  refine canon_twelve (step x0 x1 x2 x3 xo4) _ _ _ _ _ _ _ _ _ _ _ _ [] ?_ _ ?_
  · exact ⟨m_piece _ _ _ _ _ 1280 (by norm_num) _ _ _, l_piece _ _ _ _ _ 1280 (by norm_num) _ _ _ _, m_piece _ _ _ _ _ 1024 (by norm_num) _ _ _, l_piece _ _ _ _ _ 1024 (by norm_num) _ _ _ _, m_piece _ _ _ _ _ 768 (by norm_num) _ _ _, l_piece _ _ _ _ _ 768 (by norm_num) _ _ _ _, m_piece _ _ _ _ _ 512 (by norm_num) _ _ _, l_piece _ _ _ _ _ 512 (by norm_num) _ _ _ _, m_piece _ _ _ _ _ 256 (by norm_num) _ _ _, l_piece _ _ _ _ _ 256 (by norm_num) _ _ _ _, m_piece _ _ _ _ _ 0 (by norm_num) _ _ _, l_piece _ _ _ _ _ 0 (by norm_num) _ _ _ _, trivial⟩
  · exact View.cover_of_tiled_head _ _ _ rfl _
end

section
variable (c : Dev nD) (i : grid0.Coords) (arg1 : Memref sig .tc .vmem S8x512 .f32) (harg1 : arg1.IsWhole) (arg2 : Memref sig .tc .vmem S512x1280 .i8) (harg2 : arg2.IsWhole) (arg3 : Memref sig .tc .vmem S1536x1280 .bf16) (harg3 : arg3.IsWhole) (arg4 : Memref sig .tc .vmem S8x1536 .f32) (harg4 : arg4.IsWhole) (arg5 : Memref sig .tc .vmem S2x8x1536 .f32) (harg5 : arg5.IsWhole) (arg6 : Memref sig .tc .vmem S512x1280 .bf16) (harg6 : arg6.IsWhole) (hc0 : cond0_0 i)
    (x0 : Vec Ideal S8x512 .f32) (x1 : Vec Ideal S512x1280 .i8) (x2 : Vec Ideal S1536x1280 .bf16) (x3 : Vec Ideal S8x1536 .f32)

/-- What the first grid point leaves. -/
theorem out_A (y) : out0_A_4 c i arg1 harg1 arg2 harg2 arg3 harg3 arg4 harg4 arg5 harg5 arg6 harg6 hc0 x0 x1 x2 x3 y = step x0 x1 x2 x3 init y := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp only [View.readAt_eq_ld, harg1.read_unread, harg2.read_unread, harg3.read_unread, harg4.read_unread,
    View.ld_unit_zero (S := S8x512) hz, View.ld_unit_zero (S := S512x1280) hz, View.ld_unit_zero (S := S1536x1280) hz, View.readCov_unit_zero (S := S512x1280) _ hz]
  simp (disch := norm_num) only [readCov_left, readCov_other, readCov_init]
  simp only [sum_block1, max_block1, sum_block2, max_block2, sum_block3, max_block3, sum_block4, max_block4, sum_block5, max_block5]
  refine canon_twelve (step x0 x1 x2 x3 init) _ _ _ _ _ _ _ _ _ _ _ _ _ ?_ _ ?_
  · exact ⟨m_piece _ _ _ _ _ 1280 (by norm_num) _ _ _, l_piece _ _ _ _ _ 1280 (by norm_num) _ _ _ _, m_piece _ _ _ _ _ 1024 (by norm_num) _ _ _, l_piece _ _ _ _ _ 1024 (by norm_num) _ _ _ _, m_piece _ _ _ _ _ 768 (by norm_num) _ _ _, l_piece _ _ _ _ _ 768 (by norm_num) _ _ _ _, m_piece _ _ _ _ _ 512 (by norm_num) _ _ _, l_piece _ _ _ _ _ 512 (by norm_num) _ _ _ _, m_piece _ _ _ _ _ 256 (by norm_num) _ _ _, l_piece _ _ _ _ _ 256 (by norm_num) _ _ _ _, m_piece _ _ _ _ _ 0 (by norm_num) _ _ _, l_piece _ _ _ _ _ 0 (by norm_num) _ _ _ _, trivial⟩
  · exact View.cover_of_tiled_head _ _ _ rfl _
end

end Cert.FwdIdeal.Val
-- ==== Proof.FwdTok.lean ====
module

public import proofs.«01_k».proof.Proof.FwdPay

@[expose] public section

set_option maxRecDepth 16384

noncomputable section

namespace Cert.FwdIdeal.Val

open Cert.FwdIdeal Cert.FwdIdeal.Gen Cert.FwdMath Idealize.ShloMosaic Idealize.ShloMosaic.TcCoe Idealize.SL.Sem

/-- The log-sum-exp over the sampled rows, from the eight running maxima and sums. -/
def smp (ml : Vec Ideal S2x8x1536 .f32) (t : Fin 1536) : EReal :=
  (Finset.univ.sup fun r : Fin 8 => ml (ix3 0 r t)) +
    Ideal.log (∑ r : Fin 8, ml (ix3 1 r t) * Ideal.exp (ml (ix3 0 r t) - Finset.univ.sup fun r : Fin 8 => ml (ix3 0 r t)))

section
variable (x0 : Vec Ideal S2x8x1536 .f32) (x1 : Vec Ideal S8x1536 .f32) (x2 : Vec Ideal S1536x1280 .bf16) (x3 : Vec Ideal S1536x1280 .i8)

/-- The log-sum-exp over the sampled rows and the token's own. -/
def lseB (t : Fin 1536) : EReal := addExp (zTok x2 x1 x3 t) (smp x0 t)

/-- The gradient of the token's own logit. -/
def dzB (t : Fin 1536) : EReal := x1 (ix2 2 t) * (Ideal.exp (zTok x2 x1 x3 t - lseB x0 x1 x2 x3 t) - 1)

/-- The log-sum-exp, the loss and zeros. -/
def tokB : Vec Ideal S8x1536 .f32 := fun y =>
  if (y 0).val = 0 then lseB x0 x1 x2 x3 (y 1) else if (y 0).val = 1 then lseB x0 x1 x2 x3 (y 1) - zTok x2 x1 x3 (y 1) else 0

section
variable (i0 : ∀ a, (![0, 0] : Fin 2 → ℕ) a + S1x1536.size a ≤ S8x1536.size a) (i1 : ∀ a, (![1, 0] : Fin 2 → ℕ) a + S1x1536.size a ≤ S8x1536.size a)
    (i2 : ∀ a, (![2, 0] : Fin 2 → ℕ) a + S1x1536.size a ≤ S8x1536.size a)
    (j0 : ∀ a, (![0, 0, 0] : Fin 3 → ℕ) a + S1x8x1536.size a ≤ S2x8x1536.size a) (j1 : ∀ a, (![1, 0, 0] : Fin 3 → ℕ) a + S1x8x1536.size a ≤ S2x8x1536.size a)

/-- One row of an eight-row array. -/
theorem row_at (o : ℕ) (ho : o < 8) (i : ∀ a, (![o, 0] : Fin 2 → ℕ) a + S1x1536.size a ≤ S8x1536.size a) (t : Fin 1536) :
    View.ld (Val := Elt Ideal) (S := S8x1536) (e' := .f32) x1 (Rect.unit ![o, 0] S1x1536.size i) (ix2 0 t) = x1 (ix2 ⟨o, ho⟩ t) := by
  refine View.ld_unit_apply_of _ _ _ _ _ _ fun a => ?_
  fin_cases a <;> simp [ix2]

/-- One half of the pair of running maxima and sums. -/
theorem half_at (o : ℕ) (ho : o < 2) (i : ∀ a, (![o, 0, 0] : Fin 3 → ℕ) a + S1x8x1536.size a ≤ S2x8x1536.size a) (r : Fin 8) (t : Fin 1536) :
    View.ld (Val := Elt Ideal) (S := S2x8x1536) (e' := .f32) x0 (Rect.unit ![o, 0, 0] S1x8x1536.size i) (ix3 0 r t) = x0 (ix3 ⟨o, ho⟩ r t) := by
  refine View.ld_unit_apply_of _ _ _ _ _ _ fun a => ?_
  fin_cases a <;> simp [ix3]

theorem own_at (t : Fin 1536) : k1_pay10 (View.ld (Val := Elt Ideal) (S := S8x1536) (e' := .f32) x1 (Rect.unit ![0, 0] S1x1536.size i0))
    (View.ld (Val := Elt Ideal) (S := S8x1536) (e' := .f32) x1 (Rect.unit ![1, 0] S1x1536.size i1)) x2 x3 (ix2 0 t) = zTok x2 x1 x3 t := by
  rw [p10_at, row_at x1 0 (by norm_num), row_at x1 1 (by norm_num)]
  rfl

theorem lse_at (t : Fin 1536) : k1_pay11 (View.ld (Val := Elt Ideal) (S := S8x1536) (e' := .f32) x1 (Rect.unit ![0, 0] S1x1536.size i0))
    (View.ld (Val := Elt Ideal) (S := S8x1536) (e' := .f32) x1 (Rect.unit ![1, 0] S1x1536.size i1)) x2 x3
    (View.ld (Val := Elt Ideal) (S := S2x8x1536) (e' := .f32) x0 (Rect.unit ![0, 0, 0] S1x8x1536.size j0))
    (View.ld (Val := Elt Ideal) (S := S2x8x1536) (e' := .f32) x0 (Rect.unit ![1, 0, 0] S1x8x1536.size j1)) (ix2 0 t) = lseB x0 x1 x2 x3 t := by
  rw [p11_at, own_at]
  simp only [half_at x0 0 (by norm_num), half_at x0 1 (by norm_num)]
  rfl

/-- The stored log-sum-exps. -/
theorem piece_lse (i) (x : (Rect.unit (s := S8x1536) ![0, 0] S1x1536.size i).shape.Idx) :
    k1_pay11 (View.ld (Val := Elt Ideal) (S := S8x1536) (e' := .f32) x1 (Rect.unit ![0, 0] S1x1536.size i0)) (View.ld (Val := Elt Ideal) (S := S8x1536) (e' := .f32) x1 (Rect.unit ![1, 0] S1x1536.size i1)) x2 x3
      (View.ld (Val := Elt Ideal) (S := S2x8x1536) (e' := .f32) x0 (Rect.unit ![0, 0, 0] S1x8x1536.size j0)) (View.ld (Val := Elt Ideal) (S := S2x8x1536) (e' := .f32) x0 (Rect.unit ![1, 0, 0] S1x8x1536.size j1)) x
      = tokB x0 x1 x2 x3 ((Rect.unit (s := S8x1536) ![0, 0] S1x1536.size i).emb x) := by
  obtain ⟨q, t, rfl⟩ : ∃ (q : Fin 1) (t : Fin 1536), x = (ix2 q t : S1x1536.Idx) := ⟨x 0, x 1, by funext a; fin_cases a <;> rfl⟩
  obtain rfl : q = 0 := Subsingleton.elim _ _
  have he : (Rect.unit (s := S8x1536) ![0, 0] S1x1536.size i).emb (ix2 0 t : S1x1536.Idx) = ix2 (0 : Fin 8) t := by
    funext a; ext; refine (Rect.idx_unit_val _ _ _ _ _).trans ?_; fin_cases a <;> simp [ix2]
  exact ((lse_at x0 x1 x2 x3 i0 i1 j0 j1 t).trans rfl).trans (congrArg (tokB x0 x1 x2 x3) he).symm

/-- The stored losses. -/
theorem piece_loss (i) (x : (Rect.unit (s := S8x1536) ![1, 0] S1x1536.size i).shape.Idx) :
    k1_pay2 (k1_pay10 (View.ld (Val := Elt Ideal) (S := S8x1536) (e' := .f32) x1 (Rect.unit ![0, 0] S1x1536.size i0)) (View.ld (Val := Elt Ideal) (S := S8x1536) (e' := .f32) x1 (Rect.unit ![1, 0] S1x1536.size i1)) x2 x3)
      (k1_pay11 (View.ld (Val := Elt Ideal) (S := S8x1536) (e' := .f32) x1 (Rect.unit ![0, 0] S1x1536.size i0)) (View.ld (Val := Elt Ideal) (S := S8x1536) (e' := .f32) x1 (Rect.unit ![1, 0] S1x1536.size i1)) x2 x3
      (View.ld (Val := Elt Ideal) (S := S2x8x1536) (e' := .f32) x0 (Rect.unit ![0, 0, 0] S1x8x1536.size j0)) (View.ld (Val := Elt Ideal) (S := S2x8x1536) (e' := .f32) x0 (Rect.unit ![1, 0, 0] S1x8x1536.size j1))) x
      = tokB x0 x1 x2 x3 ((Rect.unit (s := S8x1536) ![1, 0] S1x1536.size i).emb x) := by
  obtain ⟨q, t, rfl⟩ : ∃ (q : Fin 1) (t : Fin 1536), x = (ix2 q t : S1x1536.Idx) := ⟨x 0, x 1, by funext a; fin_cases a <;> rfl⟩
  obtain rfl : q = 0 := Subsingleton.elim _ _
  have he : (Rect.unit (s := S8x1536) ![1, 0] S1x1536.size i).emb (ix2 0 t : S1x1536.Idx) = ix2 (1 : Fin 8) t := by
    funext a; ext; refine (Rect.idx_unit_val _ _ _ _ _).trans ?_; fin_cases a <;> simp [ix2]
  refine (((p2_at _ _ t).trans ?_).trans rfl).trans (congrArg (tokB x0 x1 x2 x3) he).symm
  rw [own_at, lse_at]
  rfl

/-- The stored zeros. -/
theorem piece_zero (i) (x : (Rect.unit (s := S8x1536) ![2, 0] S6x1536.size i).shape.Idx) :
    k1_pay3 (F := Ideal) x = tokB x0 x1 x2 x3 ((Rect.unit (s := S8x1536) ![2, 0] S6x1536.size i).emb x) := by
  obtain ⟨q, t, rfl⟩ : ∃ (q : Fin 6) (t : Fin 1536), x = (ix2 q t : S6x1536.Idx) := ⟨x 0, x 1, by funext a; fin_cases a <;> rfl⟩
  have he : ((Rect.unit (s := S8x1536) ![2, 0] S6x1536.size i).emb (ix2 q t : S6x1536.Idx) 0 : ℕ) = 2 + q := by
    refine (Rect.idx_unit_val _ _ _ _ _).trans ?_; simp [ix2]
  refine (p3_at q t).trans ?_
  unfold tokB
  rw [if_neg (by omega), if_neg (by omega)]
end
end

section
variable (c : Dev nD) (arg0 : Memref sig .tc .vmem S2x8x1536 .f32) (harg0 : arg0.IsWhole) (arg1 : Memref sig .tc .vmem S8x1536 .f32) (harg1 : arg1.IsWhole) (arg2 : Memref sig .tc .vmem S1536x1280 .bf16) (harg2 : arg2.IsWhole) (arg3 : Memref sig .tc .vmem S1536x1280 .i8) (harg3 : arg3.IsWhole) (arg4 : Memref sig .tc .vmem S8x1536 .f32) (harg4 : arg4.IsWhole) (arg5 : Memref sig .tc .vmem S1536x1280 .f32) (harg5 : arg5.IsWhole) (arg6 : Memref sig .tc .vmem S1536x1280 .f32) (harg6 : arg6.IsWhole)
    (x0 : Vec Ideal S2x8x1536 .f32) (x1 : Vec Ideal S8x1536 .f32) (x2 : Vec Ideal S1536x1280 .bf16) (x3 : Vec Ideal S1536x1280 .i8)

theorem tok_6 (t : Fin 1536) (d : Fin 1280) : out1_A_6 c arg0 harg0 arg1 harg1 arg2 harg2 arg3 harg3 arg4 harg4 arg5 harg5 arg6 harg6 x0 x1 x2 x3 (ix2 t d) = dzB x0 x1 x2 x3 t * x2 (ix2 t d) := by
  unfold out1_A_6
  rw [View.read_writes_eq_canon _ _ _ (cover1_A_6 c arg0 harg0 arg1 harg1 arg2 harg2 arg3 harg3 arg4 harg4 arg5 harg5 arg6 harg6 x0 x1 x2 x3)]
  unfold kernelRun1_A
  dsimp only
  sl_unfold_words
  simp only [View.readAt_eq_ld, harg0.read_unread, harg1.read_unread, harg2.read_unread, harg3.read_unread, View.ld_unit_zero (S := S1536x1280) hz]
  rw [View.canon_unit_zero hz, p4_at, own_at, lse_at, row_at x1 2 (by norm_num)]
  rfl

theorem tok_5 (t : Fin 1536) (d : Fin 1280) : out1_A_5 c arg0 harg0 arg1 harg1 arg2 harg2 arg3 harg3 arg4 harg4 arg5 harg5 arg6 harg6 x0 x1 x2 x3 (ix2 t d) = dzB x0 x1 x2 x3 t * x1 (ix2 0 t) * ((x3 (ix2 t d)).toInt : ℝ) := by
  unfold out1_A_5
  rw [View.read_writes_eq_canon _ _ _ (cover1_A_5 c arg0 harg0 arg1 harg1 arg2 harg2 arg3 harg3 arg4 harg4 arg5 harg5 arg6 harg6 x0 x1 x2 x3)]
  unfold kernelRun1_A
  dsimp only
  sl_unfold_words
  simp only [View.readAt_eq_ld, harg0.read_unread, harg1.read_unread, harg2.read_unread, harg3.read_unread, View.ld_unit_zero (S := S1536x1280) hz]
  rw [View.canon_unit_zero hz, p5_at, own_at, lse_at, row_at x1 2 (by norm_num), row_at x1 0 (by norm_num)]
  rfl

theorem tok_4 (y) : out1_A_4 c arg0 harg0 arg1 harg1 arg2 harg2 arg3 harg3 arg4 harg4 arg5 harg5 arg6 harg6 x0 x1 x2 x3 y = tokB x0 x1 x2 x3 y := by
  have hc := fun y => cover1_A_4 c arg0 harg0 arg1 harg1 arg2 harg2 arg3 harg3 arg4 harg4 arg5 harg5 arg6 harg6 x0 x1 x2 x3 y
  revert hc
  unfold out1_A_4
  rw [View.read_writes_eq_canon _ _ _ (cover1_A_4 c arg0 harg0 arg1 harg1 arg2 harg2 arg3 harg3 arg4 harg4 arg5 harg5 arg6 harg6 x0 x1 x2 x3)]
  unfold kernelRun1_A
  dsimp only
  sl_unfold_words
  simp only [View.readAt_eq_ld, harg0.read_unread, harg1.read_unread, harg2.read_unread, harg3.read_unread, View.ld_unit_zero (S := S1536x1280) hz]
  intro hc
  refine View.canon_apply_of_pieces (S := S8x1536) (Val := Elt Ideal) (e := .f32) (tokB x0 x1 x2 x3) _ (View.PiecesOf.mem ?_) _ (hc y)
  exact ⟨piece_zero x0 x1 x2 x3 inb_S8x1536_S6x1536_2_0, piece_loss x0 x1 x2 x3 inb_S8x1536_S1x1536_0_0 inb_S8x1536_S1x1536_1_0 inb_S2x8x1536_S1x8x1536_0_0_0 inb_S2x8x1536_S1x8x1536_1_0_0 inb_S8x1536_S1x1536_1_0,
    piece_lse x0 x1 x2 x3 inb_S8x1536_S1x1536_0_0 inb_S8x1536_S1x1536_1_0 inb_S2x8x1536_S1x8x1536_0_0_0 inb_S2x8x1536_S1x8x1536_1_0_0 inb_S8x1536_S1x1536_0_0, trivial⟩
end

end Cert.FwdIdeal.Val
-- ==== Proof.FwdSum.lean ====
module

public import proofs.«01_k».proof.Proof.FwdVal
public import proofs.«01_k».proof.Proof.FwdTok

@[expose] public section

set_option maxRecDepth 16384

noncomputable section

namespace Cert.FwdIdeal.Val

open Cert.FwdIdeal Cert.FwdIdeal.Gen Cert.FwdMath Idealize.ShloMosaic Idealize.ShloMosaic.TcCoe Idealize.SL.Sem
open Idealize.ShloMosaic.Pipeline (Dat)

/-! ## The running sum of exponentials, in real numbers -/

/-- The exponential as a real number. -/
def ex (z : EReal) : ℝ := (Ideal.exp z).toReal

theorem ex_coe {z : EReal} (h : z ≠ ⊤) : Ideal.exp z = (ex z : EReal) := by
  unfold ex
  induction z with
  | bot => simp [Ideal.exp_bot]
  | coe r => simp [Ideal.exp_coe]
  | top => exact absurd rfl h

theorem ex_nonneg {z : EReal} (h : z ≠ ⊤) : 0 ≤ ex z := by
  unfold ex
  induction z with
  | bot => simp [Ideal.exp_bot]
  | coe r => simp [Ideal.exp_coe, (Real.exp_pos r).le]
  | top => exact absurd rfl h

theorem exp_sub {z : EReal} (h : z ≠ ⊤) (M : ℝ) : Ideal.exp (z - (M : EReal)) = ((ex z * Real.exp (-M) : ℝ) : EReal) := by
  unfold ex
  induction z with
  | bot => simp [Ideal.exp_bot]
  | coe r => rw [← EReal.coe_sub, Ideal.exp_coe, Ideal.exp_coe, EReal.toReal_coe, ← Real.exp_add, sub_eq_add_neg]
  | top => exact absurd rfl h

/-- A new maximum over logits that may be minus infinity is a real number if the old one is. -/
theorem max_real {n : ℕ} (M : ℝ) (z : Fin n → EReal) (h : ∀ k, z k ≠ ⊤) : ∃ M' : ℝ, max (M : EReal) (Finset.univ.sup z) = (M' : EReal) := by
  have h1 : max (M : EReal) (Finset.univ.sup z) ≠ ⊤ :=
    (max_lt (EReal.coe_lt_top M) ((Finset.sup_lt_iff bot_lt_top).2 fun k _ => lt_top_iff_ne_top.2 (h k))).ne
  have h2 : max (M : EReal) (Finset.univ.sup z) ≠ ⊥ := (lt_of_lt_of_le (EReal.bot_lt_coe M) (le_max_left _ _)).ne'
  exact ⟨_, (EReal.coe_toReal h1 h2).symm⟩

/-- One step of the running sum keeps its meaning. -/
theorem step_real {n : ℕ} (M L : ℝ) (z : Fin n → EReal) (h : ∀ k, z k ≠ ⊤) : ∃ M' L' : ℝ, max (M : EReal) (Finset.univ.sup z) = (M' : EReal)
    ∧ (L : EReal) * Ideal.exp ((M : EReal) - (M' : EReal)) + ∑ k, Ideal.exp (z k - (M' : EReal)) = (L' : EReal)
    ∧ L' * Real.exp M' = L * Real.exp M + ∑ k, ex (z k) := by
  obtain ⟨M', hM⟩ := max_real M z h
  refine ⟨M', L * Real.exp (M - M') + ∑ k, ex (z k) * Real.exp (-M'), hM, ?_, ?_⟩
  · simp only [fun k => exp_sub (h k) M', coe_sum]
    rw [← EReal.coe_sub, Ideal.exp_coe, ← EReal.coe_mul, ← EReal.coe_add]
  · rw [add_mul, Finset.sum_mul, mul_assoc, ← Real.exp_add, sub_add_cancel]
    congr 1
    refine Finset.sum_congr rfl fun k _ => ?_
    rw [mul_assoc, ← Real.exp_add, neg_add_cancel, Real.exp_zero, mul_one]

/-- The eight running sums together give the logarithm of the whole sum. -/
theorem combine (M L S : Fin 8 → ℝ) (h : ∀ r, L r * Real.exp (M r) = S r) :
    (Finset.univ.sup fun r => (M r : EReal)) + Ideal.log (∑ r, (L r : EReal) * Ideal.exp ((M r : EReal) - Finset.univ.sup fun r => (M r : EReal)))
      = Ideal.log ((∑ r, S r : ℝ) : EReal) := by
  obtain ⟨m, hm⟩ : ∃ m : ℝ, (Finset.univ.sup fun r => (M r : EReal)) = (m : EReal) := by
    obtain ⟨m, hm⟩ := max_real (M 0) (fun r : Fin 8 => (M r : EReal)) fun r => EReal.coe_ne_top _
    exact ⟨m, (max_eq_right (Finset.le_sup (f := fun r : Fin 8 => (M r : EReal)) (Finset.mem_univ 0))).symm.trans hm⟩
  have hr (r : Fin 8) : (L r : EReal) * Ideal.exp ((M r : EReal) - (m : EReal)) = ((S r * Real.exp (-m) : ℝ) : EReal) := by
    rw [← EReal.coe_sub, Ideal.exp_coe, ← EReal.coe_mul, ← h r, mul_assoc, ← Real.exp_add, sub_eq_add_neg]
  simp only [hm, hr, coe_sum]
  rw [← Finset.sum_mul, Ideal.log_coe, Ideal.log_coe]
  rcases le_or_gt (∑ r, S r) 0 with hs | hs
  · rw [if_pos (mul_nonpos_of_nonpos_of_nonneg hs (Real.exp_pos _).le), if_pos hs, EReal.add_bot]
  · rw [if_neg (not_le.2 (mul_pos hs (Real.exp_pos _))), if_neg (not_le.2 hs), Real.log_mul hs.ne' (Real.exp_pos _).ne', Real.log_exp,
      ← EReal.coe_add, add_comm, neg_add_cancel_right]

/-! ## What the blocks hold -/

variable (V : (c : Dev nD) → (b : Ref sig .tc) → Buf (Elt Ideal) ((c : Thread nD τ).loc b)) (c : Dev nD)

theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The row of the whole table that row `r` of block `t` is. -/
def rowOf (t : Fin 32) (r : Fin 512) : Fin 16384 := ⟨512 * t.val + r.val, by omega⟩

def pt (t : Fin cfg0.N) : Fin 32 := ⟨t.val, lt_of_lt_of_eq t.isLt N_0⟩

/-- The call's arguments as whole arrays. -/
abbrev aux : Vec Ideal S8x16384 .f32 := V c (Pipeline.arrRef spec0 0)
abbrev codes : Vec Ideal S16384x1280 .i8 := V c (Pipeline.arrRef spec0 1)
abbrev hid : Vec Ideal S1536x1280 .bf16 := V c (Pipeline.arrRef spec0 2)
abbrev rows : Vec Ideal S8x1536 .f32 := V c (Pipeline.arrRef spec0 3)

theorem iblk0_at (t : Fin cfg0.N) (a : Fin 8) (r : Fin 512) : iblk0 V c 0 t (ix2 a r : S8x512.Idx) = aux V c (ix2 a (rowOf (pt t) r)) := by
  obtain ⟨h0, h1⟩ := idx0 t
  refine congrArg (aux V c) (funext fun k => Fin.ext ?_)
  match k with
  | ⟨0, _⟩ => show win0_0.index t (0 : Fin 2) * 8 + 1 * a.val = a.val; omega
  | ⟨1, _⟩ => show win0_0.index t (1 : Fin 2) * 512 + 1 * r.val = 512 * t.val + r.val; omega

theorem iblk1_at (t : Fin cfg0.N) (r : Fin 512) (d : Fin 1280) : iblk0 V c 1 t (ix2 r d : S512x1280.Idx) = codes V c (ix2 (rowOf (pt t) r) d) := by
  obtain ⟨h0, h1⟩ := idx1 t
  refine congrArg (codes V c) (funext fun k => Fin.ext ?_)
  match k with
  | ⟨0, _⟩ => show win0_1.index t (0 : Fin 2) * 512 + 1 * r.val = 512 * t.val + r.val; omega
  | ⟨1, _⟩ => show win0_1.index t (1 : Fin 2) * 1280 + 1 * d.val = d.val; omega

theorem iblk2_eq (t : Fin cfg0.N) : iblk0 V c 2 t = hid V c := by
  obtain ⟨h0, h1⟩ := idx2 t
  funext y
  refine congrArg (hid V c) (funext fun k => Fin.ext ?_)
  match k with
  | ⟨0, _⟩ => show win0_2.index t (0 : Fin 2) * 1536 + 1 * (y 0).val = (y 0).val; omega
  | ⟨1, _⟩ => show win0_2.index t (1 : Fin 2) * 1280 + 1 * (y 1).val = (y 1).val; omega

theorem iblk3_eq (t : Fin cfg0.N) : iblk0 V c 3 t = rows V c := by
  obtain ⟨h0, h1⟩ := idx3 t
  funext y
  refine congrArg (rows V c) (funext fun k => Fin.ext ?_)
  match k with
  | ⟨0, _⟩ => show win0_3.index t (0 : Fin 2) * 8 + 1 * (y 0).val = (y 0).val; omega
  | ⟨1, _⟩ => show win0_3.index t (1 : Fin 2) * 1536 + 1 * (y 1).val = (y 1).val; omega

theorem z_iblk (t : Fin cfg0.N) (r : Fin 512) (l : Fin 1536) :
    z (iblk0 V c 0 t) (iblk0 V c 1 t) (iblk0 V c 2 t) (iblk0 V c 3 t) r l
      = zAll (aux V c) (codes V c) (hid V c) (rows V c) (rowOf (pt t) r) l := by
  unfold z zAll
  rw [iblk2_eq, iblk3_eq, iblk0_at, iblk0_at, iblk0_at]
  simp only [iblk1_at]

/-! ## The grid's fold -/

/-- The exponential of the logit of row `8 k + r` of block `j`. -/
def exAt (r : Fin 8) (l : Fin 1536) (j : Fin 32) (k : Fin 64) : ℝ :=
  ex (zAll (aux V c) (codes V c) (hid V c) (rows V c) (rowOf j (row k r)) l)

/-- What one block does to a maximum and a sum that are real numbers. -/
theorem step_acc (hfin : ∀ n l, zAll (aux V c) (codes V c) (hid V c) (rows V c) n l ≠ ⊤) (t : Fin cfg0.N) (acc : Vec Ideal S2x8x1536 .f32)
    (r : Fin 8) (l : Fin 1536) (M L : ℝ) (hM : acc (ix3 0 r l) = (M : EReal)) (hL : acc (ix3 1 r l) = (L : EReal)) :
    ∃ M' L' : ℝ, step (iblk0 V c 0 t) (iblk0 V c 1 t) (iblk0 V c 2 t) (iblk0 V c 3 t) acc (ix3 0 r l) = (M' : EReal)
      ∧ step (iblk0 V c 0 t) (iblk0 V c 1 t) (iblk0 V c 2 t) (iblk0 V c 3 t) acc (ix3 1 r l) = (L' : EReal)
      ∧ L' * Real.exp M' = L * Real.exp M + ∑ k : Fin 64, exAt V c r l (pt t) k := by
  obtain ⟨M', L', h1, h2, h3⟩ := step_real M L (fun k : Fin 64 => zAll (aux V c) (codes V c) (hid V c) (rows V c) (rowOf (pt t) (row k r)) l) fun k => hfin _ _
  have e0 : newM (iblk0 V c 0 t) (iblk0 V c 1 t) (iblk0 V c 2 t) (iblk0 V c 3 t) acc r l = (M' : EReal) := by
    unfold newM
    simp only [z_iblk]
    rw [hM]
    exact h1
  refine ⟨M', L', e0, ?_, h3⟩
  show newL (iblk0 V c 0 t) (iblk0 V c 1 t) (iblk0 V c 2 t) (iblk0 V c 3 t) acc r l = _
  unfold newL
  rw [e0]
  simp only [z_iblk]
  rw [hM, hL]
  exact h2

theorem outs_acc (hfin : ∀ n l, zAll (aux V c) (codes V c) (hid V c) (rows V c) n l ≠ ⊤) (r : Fin 8) (l : Fin 1536) : ∀ (n : ℕ) (hn : n < cfg0.N),
    ∃ M L : ℝ, outsAt0 V c n hn (ix3 0 r l) = (M : EReal) ∧ outsAt0 V c n hn (ix3 1 r l) = (L : EReal)
      ∧ L * Real.exp M = ∑ j : Fin (n + 1), ∑ k : Fin 64, exAt V c r l ⟨j.val, by have := lt_of_lt_of_eq hn N_0; omega⟩ k := by
  intro n
  induction n with
  | zero =>
    intro hn
    obtain ⟨M', L', h1, h2, h3⟩ := step_acc V c hfin ⟨0, hn⟩ init r l start 0 rfl rfl
    refine ⟨M', L', ?_, ?_, ?_⟩
    · rw [outsAt0_A V c ⟨0, hn⟩ rfl]
      exact (out_A _ _ _ _ _ _ _ _ _ _ _ _ _ _ _ _ _ _ _ _).trans h1
    · rw [outsAt0_A V c ⟨0, hn⟩ rfl]
      exact (out_A _ _ _ _ _ _ _ _ _ _ _ _ _ _ _ _ _ _ _ _).trans h2
    · rw [Fin.sum_univ_one, h3, zero_mul, zero_add]
      rfl
  | succ n ih =>
    intro hn
    have hN : n + 1 < 32 := lt_of_lt_of_eq hn N_0
    obtain ⟨M, L, g1, g2, g3⟩ := ih (by omega)
    obtain ⟨M', L', h1, h2, h3⟩ := step_acc V c hfin ⟨n + 1, hn⟩ (outsAt0 V c n (by omega)) r l M L g1 g2
    refine ⟨M', L', ?_, ?_, ?_⟩
    · rw [outsAt0_B V c ⟨n + 1, hn⟩ (by show ¬(n + 1) % 32 = 0; omega)]
      exact (out_B _ _ _ _ _ _ _ _ _ _ _ _ _ _ _ _ _ _ _ _ _).trans h1
    · rw [outsAt0_B V c ⟨n + 1, hn⟩ (by show ¬(n + 1) % 32 = 0; omega)]
      exact (out_B _ _ _ _ _ _ _ _ _ _ _ _ _ _ _ _ _ _ _ _ _).trans h2
    · rw [Fin.sum_univ_castSucc, h3, g3]
      rfl

/-- A sum over all rows, block by block and by place in a group of eight. -/
theorem sum_rows (f : Fin 16384 → ℝ) : ∑ r : Fin 8, ∑ j : Fin 32, ∑ k : Fin 64, f (rowOf j (row k r)) = ∑ n : Fin 16384, f n := by
  have h8 (j : Fin 32) : ∑ k : Fin 64, ∑ r : Fin 8, f (rowOf j (row k r)) = ∑ q : Fin 512, f (rowOf j q) := by
    rw [← Fintype.sum_prod_type' (f := fun k r => f (rowOf j (row k r)))]
    refine Fintype.sum_equiv (finProdFinEquiv (m := 64) (n := 8)) _ _ fun p => congrArg (fun q => f (rowOf j q)) (Fin.ext ?_)
    show p.1.val * 8 + p.2.val = p.2.val + 8 * p.1.val
    omega
  rw [Finset.sum_comm]
  simp only [fun j : Fin 32 => Finset.sum_comm (s := (Finset.univ : Finset (Fin 8))) (t := (Finset.univ : Finset (Fin 64))) (f := fun r k => f (rowOf j (row k r))), h8]
  rw [← Fintype.sum_prod_type' (f := fun t r => f (rowOf t r))]
  refine Fintype.sum_equiv (finProdFinEquiv (m := 32) (n := 512)) _ _ fun p => congrArg f (Fin.ext ?_)
  show 512 * p.1.val + p.2.val = p.2.val + 512 * p.1.val
  omega

/-- The running maxima and sums after the last block give the logarithm of the sum over all rows. -/
theorem smp_outs (hfin : ∀ n l, zAll (aux V c) (codes V c) (hid V c) (rows V c) n l ≠ ⊤) (hn : 31 < cfg0.N) (l : Fin 1536) :
    smp (outsAt0 V c 31 hn) l = Ideal.log (∑ n : Fin 16384, Ideal.exp (zAll (aux V c) (codes V c) (hid V c) (rows V c) n l)) := by
  choose M L h1 h2 h3 using fun r => outs_acc V c hfin r l 31 hn
  unfold smp
  simp only [h1, h2]
  refine (combine M L _ h3).trans ?_
  simp only [fun n => ex_coe (hfin n l), coe_sum]
  refine congrArg (fun s : ℝ => Ideal.log (s : EReal)) ?_
  exact sum_rows fun n => ex (zAll (aux V c) (codes V c) (hid V c) (rows V c) n l)

end Cert.FwdIdeal.Val
-- ==== Proof.FwdHost.lean ====
module

public import proofs.«01_k».proof.Proof.FwdMath
public import proofs.«01_k».proof.Proof.Gen.FwdIdeal.Frame
public import Idealize.ShloMosaic.Lib.StableHlo.RunRead

@[expose] public section

set_option maxRecDepth 16384

noncomputable section

namespace Cert.FwdIdeal.Val

open Cert.FwdIdeal Cert.FwdIdeal.Gen Cert.FwdMath Idealize.ShloMosaic Idealize.ShloMosaic.TcCoe Idealize.SL.Sem

/-! ## What the host code gathers -/

/-- The sampled rows' start indices in the table; a negative identifier counts from the end. -/
def startS (ids : IVec S16384 32) : IVec S16384x1 32 := broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 50257#32))) ids)

/-- The targets' start indices in the table. -/
def startT (tgt : IVec S1536 32) : IVec S1536x1 32 := broadcastInDim S1536x1 ![0] bcast_S1536_S1536x1_0 (select (cmpi .slt tgt (broadcastInDim S1536 ![] bcast_S_S1536 (constantI S_ 32 0#32))) (addi tgt (broadcastInDim S1536 ![] bcast_S_S1536 (constantI S_ 32 50257#32))) tgt)

/-- A parameter of the sampled rows. -/
def parS (p : FVec Ideal S50257 .f32) (ids : IVec S16384 32) : FVec Ideal S16384 .f32 := Host.gather gather_S50257_S16384x1_S16384_n_0_n_n_0_1_1 p (startS ids)

/-- A parameter of the targets. -/
def parT (p : FVec Ideal S50257 .f32) (tgt : IVec S1536 32) : FVec Ideal S1536 .f32 := Host.gather gather_S50257_S1536x1_S1536_n_0_n_n_0_1_1 p (startT tgt)

/-- The codes of the sampled rows. -/
def codS (w : IVec S50257x1280 8) (ids : IVec S16384 32) : IVec S16384x1280 8 := Host.gather gather_S50257x1280_S16384x1_S16384x1280_1_0_n_n_0_1_11280 w (startS ids)

/-- The codes of the targets. -/
def codT (w : IVec S50257x1280 8) (tgt : IVec S1536 32) : IVec S1536x1280 8 := Host.gather gather_S50257x1280_S1536x1_S1536x1280_1_0_n_n_0_1_11280 w (startT tgt)

/-- The hidden states, one row for each token. -/
def hidT (x : FVec Ideal S12x128x1280 .bf16) : FVec Ideal S1536x1280 .bf16 := shapeCast _ x shapeCasts_S12x128x1280_S1536x1280

/-- The target identifiers, one for each token. -/
def tgtT (x : IVec S12x128 32) : IVec S1536 32 := shapeCast _ x shapeCasts_S12x128_S1536

/-- The loss gradients, one for each token. -/
def glsT (x : FVec Ideal S12x128 .f32) : FVec Ideal S1536 .f32 := shapeCast _ x shapeCasts_S12x128_S1536

/-! ## How the host code stacks them -/

/-- Three rows of the sampled rows' length, and five of zeros. -/
def stackS (a b d : FVec Ideal S16384 .f32) : FVec Ideal S8x16384 .f32 :=
  let r := fun v : FVec Ideal S16384 .f32 => (broadcastInDim S1x16384 ![1] bcast_S16384_S1x16384_1 v : (⟨S1x16384, .f32⟩ : BufTy).Contents (Elt Ideal))
  let z := r (broadcastInDim S16384 ![] bcast_S_S16384 (constant S_ .f32 0x00000000#32))
  concatenate S8x16384 0 [⟨S1x16384, r a⟩, ⟨S1x16384, r b⟩, ⟨S1x16384, r d⟩, ⟨S1x16384, z⟩, ⟨S1x16384, z⟩, ⟨S1x16384, z⟩, ⟨S1x16384, z⟩, ⟨S1x16384, z⟩] concatenates_S1x16384_S1x16384_S1x16384_S1x16384_S1x16384_S1x16384_S1x16384_S1x16384_S8x16384_d0

/-- A row of zeros for the tokens. -/
def zeroT : FVec Ideal S1536 .f32 := broadcastInDim S1536 ![] bcast_S_S1536 (constant S_ .f32 0x00000000#32)

/-- Three rows of the tokens' length, and five of zeros. -/
def stackT (a b d : FVec Ideal S1536 .f32) : FVec Ideal S8x1536 .f32 :=
  let r := fun v : FVec Ideal S1536 .f32 => (broadcastInDim S1x1536 ![1] bcast_S1536_S1x1536_1 v : (⟨S1x1536, .f32⟩ : BufTy).Contents (Elt Ideal))
  concatenate S8x1536 0 [⟨S1x1536, r a⟩, ⟨S1x1536, r b⟩, ⟨S1x1536, r d⟩, ⟨S1x1536, r zeroT⟩, ⟨S1x1536, r zeroT⟩, ⟨S1x1536, r zeroT⟩, ⟨S1x1536, r zeroT⟩, ⟨S1x1536, r zeroT⟩] concatenates_S1x1536_S1x1536_S1x1536_S1x1536_S1x1536_S1x1536_S1x1536_S1x1536_S8x1536_d0

theorem stackS_0 (a b d : FVec Ideal S16384 .f32) (n : Fin 16384) : stackS a b d (ix2 0 n) = a (ix1 n) := by pointwise [stackS]
theorem stackS_1 (a b d : FVec Ideal S16384 .f32) (n : Fin 16384) : stackS a b d (ix2 1 n) = b (ix1 n) := by pointwise [stackS]
theorem stackS_2 (a b d : FVec Ideal S16384 .f32) (n : Fin 16384) : stackS a b d (ix2 2 n) = d (ix1 n) := by pointwise [stackS]
theorem stackT_0 (a b d : FVec Ideal S1536 .f32) (t : Fin 1536) : stackT a b d (ix2 0 t) = a (ix1 t) := by pointwise [stackT]
theorem stackT_1 (a b d : FVec Ideal S1536 .f32) (t : Fin 1536) : stackT a b d (ix2 1 t) = b (ix1 t) := by pointwise [stackT]
theorem stackT_2 (a b d : FVec Ideal S1536 .f32) (t : Fin 1536) : stackT a b d (ix2 2 t) = d (ix1 t) := by pointwise [stackT]

section
variable (m : (ℓ : Loc nD τ sig) → Buf (Elt Ideal) ℓ) (ρ : Dev nD → PrngReg) (c : Dev nD)

/-! ## The arguments -/

abbrev p0 : FVec Ideal S12x128x1280 .bf16 := m ((c : Thread nD τ).loc main_arg0)
abbrev p1 : IVec S50257x1280 8 := m ((c : Thread nD τ).loc main_arg1)
abbrev p2 : FVec Ideal S50257 .f32 := m ((c : Thread nD τ).loc main_arg2)
abbrev p3 : FVec Ideal S50257 .f32 := m ((c : Thread nD τ).loc main_arg3)
abbrev p4 : IVec S16384 32 := m ((c : Thread nD τ).loc main_arg4)
abbrev p5 : IVec S12x128 32 := m ((c : Thread nD τ).loc main_arg5)
abbrev p6 : FVec Ideal S12x128 .f32 := m ((c : Thread nD τ).loc main_arg6)

/-! ## What the calls are given -/

def b0 : FVec Ideal S8x16384 .f32 := stackS (parS (p2 m c) (p4 m c)) (parS (p3 m c) (p4 m c)) (sitofp .f32 (p4 m c))
def b1 : IVec S16384x1280 8 := codS (p1 m c) (p4 m c)
def b2 : FVec Ideal S1536x1280 .bf16 := hidT (p0 m c)
def b3 : FVec Ideal S8x1536 .f32 := stackT (sitofp .f32 (tgtT (p5 m c))) zeroT zeroT
def b4 : FVec Ideal S8x1536 .f32 := stackT (parT (p2 m c) (tgtT (p5 m c))) (parT (p3 m c) (tgtT (p5 m c))) (glsT (p6 m c))
def b5 : IVec S1536x1280 8 := codT (p1 m c) (tgtT (p5 m c))

theorem pre0 : W1 m ρ c (Proc.devRef .tc main_v41) = b0 m c := by
  unfold W1
  after_reads_simp
  rfl
theorem pre1 : W1 m ρ c (Proc.devRef .tc main_v9) = b1 m c := by
  unfold W1
  after_reads_simp
  rfl
theorem pre2 : W1 m ρ c (Proc.devRef .tc main_v0) = b2 m c := by
  unfold W1
  after_reads_simp
  rfl
theorem pre3 : W1 m ρ c (Proc.devRef .tc main_v52) = b3 m c := by
  unfold W1
  after_reads_simp
  rfl
theorem pre5 : W1 m ρ c (Proc.devRef .tc main_v16) = b5 m c := by
  unfold W1
  after_reads_simp
  rfl
theorem pre_tgt : W1 m ρ c (Proc.devRef .tc main_v1) = tgtT (p5 m c) := by
  unfold W1
  after_reads_simp
  rfl
theorem pre_gls : W1 m ρ c (Proc.devRef .tc main_v2) = glsT (p6 m c) := by
  unfold W1
  after_reads_simp
  rfl
theorem pre_zero : W1 m ρ c (Proc.devRef .tc main_v43) = zeroT := by
  unfold W1
  after_reads_simp
  rfl

/-- The tokens' parameters, from what the first stretch of host code left. -/
theorem mid_of (V : Valuation τ sig (Elt Ideal)) : StableHlo.after (hostOps1 (F := Ideal)) V (Proc.devRef .tc main_v76)
    = (let r := fun v : FVec Ideal S1536 .f32 => (broadcastInDim S1x1536 ![1] bcast_S1536_S1x1536_1 v : (⟨S1x1536, .f32⟩ : BufTy).Contents (Elt Ideal))
       let z := r (V (Proc.devRef .tc main_v43))
       concatenate S8x1536 0 [⟨S1x1536, r (parT (V (Proc.devRef .tc main_arg2)) (V (Proc.devRef .tc main_v1)))⟩, ⟨S1x1536, r (parT (V (Proc.devRef .tc main_arg3)) (V (Proc.devRef .tc main_v1)))⟩, ⟨S1x1536, r (V (Proc.devRef .tc main_v2))⟩, ⟨S1x1536, z⟩, ⟨S1x1536, z⟩, ⟨S1x1536, z⟩, ⟨S1x1536, z⟩, ⟨S1x1536, z⟩] concatenates_S1x1536_S1x1536_S1x1536_S1x1536_S1x1536_S1x1536_S1x1536_S1x1536_S8x1536_d0 : FVec Ideal S8x1536 .f32) := by
  after_reads_simp
  rfl

/-- A buffer that neither the first call nor the host code after it writes. -/
theorem W3_W1 (r : Ref sig .tc) (h1 : r ∉ hostOps1_W) (h2 : ∀ w : Fin cfg0.W, Pipeline.arrRef spec0 w = r → (cfg0.win w).isOut = false) :
    W3 m ρ c (Proc.devRef .tc r) = W1 m ρ c (Proc.devRef .tc r) :=
  (W3_of m ρ c r h1).trans (W2_of m ρ c r h2)

theorem pre4 : W3 m ρ c (Proc.devRef .tc main_v76) = b4 m c := by
  refine (mid_of (W2 m ρ c)).trans ?_
  rw [W2_of m ρ c main_v43 (by decide), W2_of m ρ c main_v1 (by decide), W2_of m ρ c main_v2 (by decide),
    W2_args m ρ c main_arg2 (by decide), W2_args m ρ c main_arg3 (by decide), pre_zero, pre_tgt, pre_gls]
  rfl

/-- What the stacked arrays hold. -/
theorem prep : Prep (b0 m c) (b3 m c) (b4 m c) (parS (p2 m c) (p4 m c)) (parS (p3 m c) (p4 m c)) (p4 m c) (tgtT (p5 m c))
    (parT (p2 m c) (tgtT (p5 m c))) (parT (p3 m c) (tgtT (p5 m c))) (glsT (p6 m c)) where
  scale := stackS_0 _ _ _
  logq := stackS_1 _ _ _
  ident n := (stackS_2 _ _ _ n).trans rfl
  target t := (stackT_0 _ _ _ t).trans rfl
  scaleT := stackT_0 _ _ _
  logqT := stackT_1 _ _ _
  grad := stackT_2 _ _ _
end

end Cert.FwdIdeal.Val
-- ==== Proof.FwdEnd.lean ====
module

public import proofs.«01_k».proof.Proof.FwdSum
public import proofs.«01_k».proof.Proof.FwdHost

@[expose] public section

set_option maxRecDepth 16384

noncomputable section

namespace Cert.FwdIdeal.Val

open Cert.FwdIdeal Cert.FwdIdeal.Gen Cert.FwdMath Idealize.ShloMosaic Idealize.ShloMosaic.TcCoe Idealize.SL.Sem
open Idealize.ShloMosaic.Pipeline (Dat)

/-! ## The blocks of the second call are its whole arrays -/

section
variable (V : (c : Dev nD) → (b : Ref sig .tc) → Buf (Elt Ideal) ((c : Thread nD τ).loc b)) (c : Dev nD)

theorem idx1_0 : ∀ t : Fin cfg1.N, win1_0.index t (0 : Fin 3) = 0 ∧ win1_0.index t (1 : Fin 3) = 0 ∧ win1_0.index t (2 : Fin 3) = 0 := (by decide +kernel : ∀ t : Fin grid1.N, win1_0.index t (0 : Fin 3) = 0 ∧ win1_0.index t (1 : Fin 3) = 0 ∧ win1_0.index t (2 : Fin 3) = 0)

theorem iblk1_0_eq (t : Fin cfg1.N) : iblk1 V c 0 t = (V c (Pipeline.arrRef spec1 0) : Vec Ideal S2x8x1536 .f32) := by
  obtain ⟨h0, h1, h2⟩ := idx1_0 t
  funext y
  refine congrArg (V c (Pipeline.arrRef spec1 0) : Vec Ideal S2x8x1536 .f32) (funext fun k => Fin.ext ?_)
  match k with
  | ⟨0, _⟩ => show win1_0.index t (0 : Fin 3) * 2 + 1 * (y 0).val = (y 0).val; omega
  | ⟨1, _⟩ => show win1_0.index t (1 : Fin 3) * 8 + 1 * (y 1).val = (y 1).val; omega
  | ⟨2, _⟩ => show win1_0.index t (2 : Fin 3) * 1536 + 1 * (y 2).val = (y 2).val; omega

theorem idx1_1 : ∀ t : Fin cfg1.N, win1_1.index t (0 : Fin 2) = 0 ∧ win1_1.index t (1 : Fin 2) = 0 := (by decide +kernel : ∀ t : Fin grid1.N, win1_1.index t (0 : Fin 2) = 0 ∧ win1_1.index t (1 : Fin 2) = 0)

theorem iblk1_1_eq (t : Fin cfg1.N) : iblk1 V c 1 t = (V c (Pipeline.arrRef spec1 1) : Vec Ideal S8x1536 .f32) := by
  obtain ⟨h0, h1⟩ := idx1_1 t
  funext y
  refine congrArg (V c (Pipeline.arrRef spec1 1) : Vec Ideal S8x1536 .f32) (funext fun k => Fin.ext ?_)
  match k with
  | ⟨0, _⟩ => show win1_1.index t (0 : Fin 2) * 8 + 1 * (y 0).val = (y 0).val; omega
  | ⟨1, _⟩ => show win1_1.index t (1 : Fin 2) * 1536 + 1 * (y 1).val = (y 1).val; omega

theorem idx1_2 : ∀ t : Fin cfg1.N, win1_2.index t (0 : Fin 2) = 0 ∧ win1_2.index t (1 : Fin 2) = 0 := (by decide +kernel : ∀ t : Fin grid1.N, win1_2.index t (0 : Fin 2) = 0 ∧ win1_2.index t (1 : Fin 2) = 0)

theorem iblk1_2_eq (t : Fin cfg1.N) : iblk1 V c 2 t = (V c (Pipeline.arrRef spec1 2) : Vec Ideal S1536x1280 .bf16) := by
  obtain ⟨h0, h1⟩ := idx1_2 t
  funext y
  refine congrArg (V c (Pipeline.arrRef spec1 2) : Vec Ideal S1536x1280 .bf16) (funext fun k => Fin.ext ?_)
  match k with
  | ⟨0, _⟩ => show win1_2.index t (0 : Fin 2) * 1536 + 1 * (y 0).val = (y 0).val; omega
  | ⟨1, _⟩ => show win1_2.index t (1 : Fin 2) * 1280 + 1 * (y 1).val = (y 1).val; omega

theorem idx1_3 : ∀ t : Fin cfg1.N, win1_3.index t (0 : Fin 2) = 0 ∧ win1_3.index t (1 : Fin 2) = 0 := (by decide +kernel : ∀ t : Fin grid1.N, win1_3.index t (0 : Fin 2) = 0 ∧ win1_3.index t (1 : Fin 2) = 0)

theorem iblk1_3_eq (t : Fin cfg1.N) : iblk1 V c 3 t = (V c (Pipeline.arrRef spec1 3) : Vec Ideal S1536x1280 .i8) := by
  obtain ⟨h0, h1⟩ := idx1_3 t
  funext y
  refine congrArg (V c (Pipeline.arrRef spec1 3) : Vec Ideal S1536x1280 .i8) (funext fun k => Fin.ext ?_)
  match k with
  | ⟨0, _⟩ => show win1_3.index t (0 : Fin 2) * 1536 + 1 * (y 0).val = (y 0).val; omega
  | ⟨1, _⟩ => show win1_3.index t (1 : Fin 2) * 1280 + 1 * (y 1).val = (y 1).val; omega

/-! ## The arrays after each call -/

/-- The first call's last grid point. -/
def last : Fin cfg0.N := ⟨31, lt_of_lt_of_eq (by decide) N_0.symm⟩

/-- The array of running maxima and sums is written back once, after the last grid point. -/
theorem end0_of (dat : Dat τ (Elt Ideal) Unit ℕ (UR sig nD τ) ℕ cfg0 c) (G : Vec Ideal S2x8x1536 .f32) (h : dat.after 4 last = G) : dat.arrAt 4 cfg0.N = G := by
  refine dat.arrAt_eq_of_after_last 4 last (by decide +kernel) G fun j => ?_
  rw [h]
  rfl

/-- The running maxima and sums end as the last grid point leaves them. -/
theorem end0 : (dat0 V c).arrAt 4 cfg0.N = outsAt0 V c last.val last.isLt := end0_of c _ _ (after0_4 V c last)

theorem end4 : (dat1 V c).arrAt 4 cfg1.N = (outsAt1 V c t1_0).1 := by
  refine (dat1 V c).arrAt_eq_of_after_last 4 t1_0 (by decide +kernel) _ fun j => ?_
  rw [after1_4]
  rfl

theorem end5 : (dat1 V c).arrAt 5 cfg1.N = (outsAt1 V c t1_0).2.1 := by
  refine (dat1 V c).arrAt_eq_of_after_last 5 t1_0 (by decide +kernel) _ fun j => ?_
  rw [after1_5]
  rfl

theorem end6 : (dat1 V c).arrAt 6 cfg1.N = (outsAt1 V c t1_0).2.2 := by
  refine (dat1 V c).arrAt_eq_of_after_last 6 t1_0 (by decide +kernel) _ fun j => ?_
  rw [after1_6]
  rfl
end

section
variable (m : (ℓ : Loc nD τ sig) → Buf (Elt Ideal) ℓ) (ρ : Dev nD → PrngReg) (c : Dev nD)

variable (hfin : ∀ n l, zAll (b0 m c) (b1 m c) (b2 m c) (b3 m c) n l ≠ ⊤)
include hfin

/-- What the second call finds in the running maxima and sums gives the logarithm of the sum over all sampled rows. -/
theorem smp_end (l : Fin 1536) : smp (V3 m ρ c (Pipeline.arrRef spec1 0)) l
    = Ideal.log (∑ n : Fin 16384, Ideal.exp (zAll (b0 m c) (b1 m c) (b2 m c) (b3 m c) n l)) := by
  have e0 : aux (V1 m ρ) c = b0 m c := pre0 m ρ c
  have e1 : codes (V1 m ρ) c = b1 m c := pre1 m ρ c
  have e2 : hid (V1 m ρ) c = b2 m c := pre2 m ρ c
  have e3 : rows (V1 m ρ) c = b3 m c := pre3 m ρ c
  refine (congrArg (fun M => smp M l) (((W3_of m ρ c main_v53 (by decide)).trans (W2_arr m ρ c 4)).trans (end0 (V1 m ρ) c))).trans ?_
  have h := smp_outs (V1 m ρ) c
  rw [e0, e1, e2, e3] at h
  exact h hfin last.isLt l

theorem in1 : (V3 m ρ c (Pipeline.arrRef spec1 1) : Vec Ideal S8x1536 .f32) = b4 m c := pre4 m ρ c
theorem in2 : (V3 m ρ c (Pipeline.arrRef spec1 2) : Vec Ideal S1536x1280 .bf16) = b2 m c := (W3_W1 m ρ c main_v0 (by decide) (by decide)).trans (pre2 m ρ c)
theorem in3 : (V3 m ρ c (Pipeline.arrRef spec1 3) : Vec Ideal S1536x1280 .i8) = b5 m c := (W3_W1 m ρ c main_v16 (by decide) (by decide)).trans (pre5 m ρ c)

theorem lse_end (t : Fin cfg1.N) (l : Fin 1536) : lseB (iblk1 (V3 m ρ) c 0 t) (iblk1 (V3 m ρ) c 1 t) (iblk1 (V3 m ρ) c 2 t) (iblk1 (V3 m ρ) c 3 t) l
    = lse (b0 m c) (b1 m c) (b2 m c) (b3 m c) (b4 m c) (b5 m c) l := by
  rw [iblk1_0_eq, iblk1_1_eq, iblk1_2_eq, iblk1_3_eq, in1 m ρ c hfin, in2 m ρ c hfin, in3 m ρ c hfin]
  unfold lseB lse
  rw [smp_end m ρ c hfin]

theorem own_end (t : Fin cfg1.N) (l : Fin 1536) : zTok (iblk1 (V3 m ρ) c 2 t) (iblk1 (V3 m ρ) c 1 t) (iblk1 (V3 m ρ) c 3 t) l
    = zTok (b2 m c) (b4 m c) (b5 m c) l := by
  rw [iblk1_1_eq, iblk1_2_eq, iblk1_3_eq, in1 m ρ c hfin, in2 m ρ c hfin, in3 m ρ c hfin]

theorem dz_end (t : Fin cfg1.N) (l : Fin 1536) : dzB (iblk1 (V3 m ρ) c 0 t) (iblk1 (V3 m ρ) c 1 t) (iblk1 (V3 m ρ) c 2 t) (iblk1 (V3 m ρ) c 3 t) l
    = dzTok (b0 m c) (b1 m c) (b2 m c) (b3 m c) (b4 m c) (b5 m c) l := by
  unfold dzB dzTok
  rw [lse_end m ρ c hfin, own_end m ρ c hfin, iblk1_1_eq, in1 m ρ c hfin]

/-- The log-sum-exp and the loss that the two calls leave. -/
theorem res4 : (dat1 (V3 m ρ) c).arrAt 4 cfg1.N = tokAll (b0 m c) (b1 m c) (b2 m c) (b3 m c) (b4 m c) (b5 m c) := by
  rw [end4]
  unfold outsAt1
  dsimp only
  funext y
  refine (tok_4 c (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0)
    (iblk1 (V3 m ρ) c 0 t1_0) (iblk1 (V3 m ρ) c 1 t1_0) (iblk1 (V3 m ρ) c 2 t1_0) (iblk1 (V3 m ρ) c 3 t1_0) y).trans ?_
  exact congrArg₂ (fun a b : EReal => if (y 0).val = 0 then a else if (y 0).val = 1 then a - b else 0) (lse_end m ρ c hfin t1_0 (y 1)) (own_end m ρ c hfin t1_0 (y 1))

/-- The own rows' part of the hidden states' gradient that the two calls leave. -/
theorem res5 : (dat1 (V3 m ρ) c).arrAt 5 cfg1.N = dhTok (b0 m c) (b1 m c) (b2 m c) (b3 m c) (b4 m c) (b5 m c) := by
  rw [end5]
  unfold outsAt1
  dsimp only
  funext y
  obtain ⟨t, d, rfl⟩ : ∃ (t : Fin 1536) (d : Fin 1280), y = ix2 t d := ⟨y 0, y 1, by funext a; fin_cases a <;> rfl⟩
  refine (tok_5 c (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0)
    (iblk1 (V3 m ρ) c 0 t1_0) (iblk1 (V3 m ρ) c 1 t1_0) (iblk1 (V3 m ρ) c 2 t1_0) (iblk1 (V3 m ρ) c 3 t1_0) t d).trans ?_
  rw [dz_end m ρ c hfin, iblk1_1_eq, iblk1_3_eq, in1 m ρ c hfin, in3 m ρ c hfin]
  rfl

/-- The own rows' gradient that the two calls leave. -/
theorem res6 : (dat1 (V3 m ρ) c).arrAt 6 cfg1.N = dwTok (b0 m c) (b1 m c) (b2 m c) (b3 m c) (b4 m c) (b5 m c) := by
  rw [end6]
  unfold outsAt1
  dsimp only
  funext y
  obtain ⟨t, d, rfl⟩ : ∃ (t : Fin 1536) (d : Fin 1280), y = ix2 t d := ⟨y 0, y 1, by funext a; fin_cases a <;> rfl⟩
  refine (tok_6 c (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0)
    (iblk1 (V3 m ρ) c 0 t1_0) (iblk1 (V3 m ρ) c 1 t1_0) (iblk1 (V3 m ρ) c 2 t1_0) (iblk1 (V3 m ρ) c 3 t1_0) t d).trans ?_
  rw [dz_end m ρ c hfin, iblk1_2_eq, in2 m ρ c hfin]
  rfl

/-- The loss, from the second row of the second call's first result. -/
theorem loss_row (M : Vec Ideal S8x1536 .f32) (h : M = tokAll (b0 m c) (b1 m c) (b2 m c) (b3 m c) (b4 m c) (b5 m c)) :
    shapeCast S1536 (extractStridedSlice S1x1536 ![1, 0] M slices_S8x1536_S1x1536_1_0) shapeCasts_S1x1536_S1536
      = lossAll (b0 m c) (b1 m c) (b2 m c) (b3 m c) (b4 m c) (b5 m c) := by
  subst h
  funext y
  obtain ⟨t, rfl⟩ : ∃ t : Fin 1536, y = ix1 t := ⟨y 0, by funext a; fin_cases a; rfl⟩
  pointwise []
  rfl

/-- The log-sum-exp, from the first row of the second call's first result. -/
theorem lse_row (M : Vec Ideal S8x1536 .f32) (h : M = tokAll (b0 m c) (b1 m c) (b2 m c) (b3 m c) (b4 m c) (b5 m c)) :
    shapeCast S1536 (extractStridedSlice S1x1536 ![0, 0] M slices_S8x1536_S1x1536_0_0) shapeCasts_S1x1536_S1536
      = lseAll (b0 m c) (b1 m c) (b2 m c) (b3 m c) (b4 m c) (b5 m c) := by
  subst h
  funext y
  obtain ⟨t, rfl⟩ : ∃ t : Fin 1536, y = ix1 t := ⟨y 0, by funext a; fin_cases a; rfl⟩
  pointwise []
  rfl

/-- The loss that the program returns. -/
theorem ret0 : W5 m ρ c (Proc.devRef .tc main_v80) = shapeCast S12x128 (lossAll (b0 m c) (b1 m c) (b2 m c) (b3 m c) (b4 m c) (b5 m c)) shapeCasts_S1536_S12x128 := by
  have h : W5 m ρ c (Proc.devRef .tc main_v80) = shapeCast S12x128 (shapeCast S1536 (extractStridedSlice S1x1536 ![1, 0] (W4 m ρ c (Proc.devRef .tc main_v77_0) : Vec Ideal S8x1536 .f32) slices_S8x1536_S1x1536_1_0) shapeCasts_S1x1536_S1536) shapeCasts_S1536_S12x128 := by
    unfold W5
    generalize W4 m ρ c = V
    after_reads_simp
    rfl
  rw [h, loss_row m c hfin _ ((W4_arr m ρ c 4).trans (res4 m ρ c hfin))]

/-- The log-sum-exp that the program returns. -/
theorem ret1 : W5 m ρ c (Proc.devRef .tc main_v82) = lseAll (b0 m c) (b1 m c) (b2 m c) (b3 m c) (b4 m c) (b5 m c) := by
  have h : W5 m ρ c (Proc.devRef .tc main_v82) = shapeCast S1536 (extractStridedSlice S1x1536 ![0, 0] (W4 m ρ c (Proc.devRef .tc main_v77_0) : Vec Ideal S8x1536 .f32) slices_S8x1536_S1x1536_0_0) shapeCasts_S1x1536_S1536 := by
    unfold W5
    generalize W4 m ρ c = V
    after_reads_simp
    rfl
  rw [h, lse_row m c hfin _ ((W4_arr m ρ c 4).trans (res4 m ρ c hfin))]

/-- The own rows' part of the hidden states' gradient that the program returns. -/
theorem ret2 : W5 m ρ c (Proc.devRef .tc main_v77_1) = dhTok (b0 m c) (b1 m c) (b2 m c) (b3 m c) (b4 m c) (b5 m c) :=
  (W5_of m ρ c main_v77_1 (by decide)).trans ((W4_arr m ρ c 5).trans (res5 m ρ c hfin))

/-- The own rows' gradient that the program returns. -/
theorem ret3 : W5 m ρ c (Proc.devRef .tc main_v77_2) = dwTok (b0 m c) (b1 m c) (b2 m c) (b3 m c) (b4 m c) (b5 m c) :=
  (W5_of m ρ c main_v77_2 (by decide)).trans ((W4_arr m ρ c 6).trans (res6 m ρ c hfin))
end

end Cert.FwdIdeal.Val
-- ==== Proof.FwdFin.lean ====
module

public import proofs.«01_k».proof.Proof.FwdHost
public import proofs.«01_k».proof.Pre_finite
public import Idealize.ShloMosaic.Lib.ReduceAll

@[expose] public section

set_option maxRecDepth 16384

noncomputable section

namespace Cert.Pre_finite

open Cert.FwdIdeal.Val (parS)

open Idealize.ShloMosaic Cert.FwdMath

theorem bcast_X : S_.BroadcastsInDim S12x128x1280 (![] : Fin 0 → Fin S12x128x1280.rank) := by decide
theorem reduces_X : S12x128x1280.ReducesTo [0, 1, 2] S_ := by decide
theorem one_elt : 0 < S_.numel := by decide
theorem bcast_P : S_.BroadcastsInDim S16384 (![] : Fin 0 → Fin S16384.rank) := by decide
theorem reduces_P : S16384.ReducesTo [0] S_ := by decide
theorem bcast_I : S16384.BroadcastsInDim S16384x1 (![0] : Fin 1 → Fin S16384x1.rank) := by decide

/-- The shape relations of the precondition. -/
instance facts : Cert.Pre_finite.Facts where
  bcast_S_S12x128x1280 := bcast_X
  reducesTo_S12x128x1280_S_d0_1_2 := reduces_X
  h_S_ := one_elt
  bcast_S_S16384 := bcast_P
  bcast_S16384_S16384x1_0 := bcast_I
  gather_S50257_S16384x1_S16384_n_0_n_n_0_1_1_wf := Cert.FwdIdeal.Gen.gather_S50257_S16384x1_S16384_n_0_n_n_0_1_1_wf
  reducesTo_S16384_S_d0 := reduces_P

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- A value whose absolute value is below plus infinity is a real number. -/
theorem real_of_lt {x : EReal} (h : BitVec.ofBool (decide (max x (-x) < ⊤)) = 1#1) : ∃ r : ℝ, x = (r : EReal) := by
  have h' : max x (-x) < ⊤ := by
    by_contra hn
    rw [decide_eq_false hn] at h
    exact absurd h (by decide)
  obtain ⟨h1, h2⟩ := max_lt_iff.1 h'
  refine ⟨x.toReal, (EReal.coe_toReal h1.ne ?_).symm⟩
  rintro rfl
  exact absurd h2 (by simp)

section
variable (x : FVec Ideal S12x128x1280 .bf16) (w : IVec S50257x1280 8) (sc lq : FVec Ideal S50257 .f32) (ids : IVec S16384 32) (tgt : IVec S12x128 32) (g : FVec Ideal S12x128 .f32)
    (h : Cert.Pre_finite.fn (F := Ideal) x w sc lq ids tgt g = fun _ => 1#1)

/-- The test that every element of a parameter of the sampled rows is finite. -/
def testP (p : FVec Ideal S16384 .f32) : IVec S_ 1 := Host.reduce IntOp.andi (cmpf .olt (Host.absf p) (broadcastInDim S16384 ![] bcast_P (constant S_ .f32 0x7F800000#32))) (constantI S_ 1 1#1) reduces_P one_elt

theorem par_real (p : FVec Ideal S16384 .f32) (hp : testP p (Shape.Idx.first one_elt) = 1#1) (y) : ∃ r : ℝ, p y = (r : EReal) := by
  have e := Host.reduce_andi_all _ _ _ _ _ hp y
  refine real_of_lt ?_
  rw [← inf_f32]
  exact e

include h

theorem tests : (Host.reduce IntOp.andi (cmpf .olt (Host.absf x) (broadcastInDim S12x128x1280 ![] bcast_X (constant S_ .bf16 0x7F80#16))) (constantI S_ 1 1#1) reduces_X one_elt (Shape.Idx.first one_elt) = 1#1
    ∧ testP (parS sc ids) (Shape.Idx.first one_elt) = 1#1) ∧ testP (parS lq ids) (Shape.Idx.first one_elt) = 1#1 := by
  obtain ⟨h1, h2⟩ := IntOp.andi_eq_one.1 (congrFun h (Shape.Idx.first one_elt))
  exact ⟨IntOp.andi_eq_one.1 h1, h2⟩

/-- The hidden states are real numbers. -/
theorem hid_real (y) : ∃ r : ℝ, x y = (r : EReal) := by
  have e := Host.reduce_andi_all _ _ _ _ _ (tests x w sc lq ids tgt g h).1.1 y
  refine real_of_lt ?_
  rw [← inf_bf16]
  exact e

/-- The sampled rows' scales are real numbers. -/
theorem scale_real (y) : ∃ r : ℝ, parS sc ids y = (r : EReal) := par_real _ (tests x w sc lq ids tgt g h).1.2 y

/-- The sampled rows' log-probabilities are real numbers. -/
theorem logq_real (y) : ∃ r : ℝ, parS lq ids y = (r : EReal) := par_real _ (tests x w sc lq ids tgt g h).2 y
end

end Cert.Pre_finite

namespace Cert.FwdMath

open Idealize.ShloMosaic

/-- No logit is plus infinity when the sampled rows' parameters and the hidden states are real numbers. -/
theorem logit_ne_top (A : FVec Ideal ⟨2, ![8, 16384]⟩ .f32) (C : IVec ⟨2, ![16384, 1280]⟩ 8) (X : FVec Ideal ⟨2, ![1536, 1280]⟩ .bf16) (T : FVec Ideal ⟨2, ![8, 1536]⟩ .f32)
    (h0 : ∀ n, ∃ r : ℝ, A (ix2 0 n) = (r : EReal)) (h1 : ∀ n, ∃ r : ℝ, A (ix2 1 n) = (r : EReal)) (hX : ∀ y, ∃ r : ℝ, X y = (r : EReal))
    (n : Fin 16384) (t : Fin 1536) : zAll A C X T n t ≠ ⊤ := by
  unfold zAll
  split
  · exact bot_ne_top
  obtain ⟨a0, e0⟩ := h0 n
  obtain ⟨a1, e1⟩ := h1 n
  choose x hx using hX
  rw [e0, e1]
  simp only [hx]
  have hs : ∑ d : Fin 1280, (((C (ix2 n d)).toInt : ℝ) : EReal) * ((x (ix2 t d) : ℝ) : EReal) = ((∑ d : Fin 1280, ((C (ix2 n d)).toInt : ℝ) * x (ix2 t d) : ℝ) : EReal) := by
    simp only [← EReal.coe_mul]
    exact (coe_sum _)
  rw [hs, ← EReal.coe_mul, ← EReal.coe_sub]
  exact EReal.coe_ne_top _

end Cert.FwdMath
-- ==== Proof.FwdRef.lean ====
module

public import proofs.«01_k».proof.Proof.FwdHost
public import proofs.«01_k».proof.Proof.Gen.FwdRefIdeal
public import proofs.«01_k».proof.Proof.Gen.FwdRefIdeal.Run
public import Idealize.ShloMosaic.Lib.Pointwise
public import Idealize.ShloMosaic.Lib.Tactic

@[expose] public section

set_option maxRecDepth 16384

noncomputable section

namespace Cert.FwdRefIdeal.Ref

open Cert.FwdRefIdeal Cert.FwdRefIdeal.Gen Cert.FwdRefIdeal.Value Idealize.ShloMosaic Idealize.ShloMosaic.TcCoe Idealize.SL.Sem
open Cert.FwdMath
open Cert.FwdIdeal.Val (parS parT codS codT hidT tgtT glsT)

variable (sc lq : FVec Ideal S16384 .f32) (ids : IVec S16384 32) (cs : IVec S16384x1280 8) (X : FVec Ideal S1536x1280 .bf16) (tgt : IVec S1536 32)
    (sct lqt g : FVec Ideal S1536 .f32) (ct : IVec S1536x1280 8)

/-- The logits of the sampled rows, as the reference writes them. -/
def zS : FVec Ideal S1536x16384 .f32 := select (cmpi .eq (broadcastInDim S1536x16384 ![0, 1] bcast_S1536x1_S1536x16384_0_1 (broadcastInDim S1536x1 ![0] bcast_S1536_S1536x1_0 tgt)) (broadcastInDim S1536x16384 ![0, 1] bcast_S1x16384_S1536x16384_0_1 (broadcastInDim S1x16384 ![1] bcast_S16384_S1x16384_1 ids))) (broadcastInDim S1536x16384 ![] bcast_S_S1536x16384 (id (constant S_ .f32 0xFF800000#32))) (subf (mulf (broadcastInDim S1536x16384 ![0, 1] bcast_S1x16384_S1536x16384_0_1 (broadcastInDim S1x16384 ![1] bcast_S16384_S1x16384_1 sc)) (Host.dotGeneral dot_S1536x1280_S16384x1280_S1536x16384_1_1_0_0_n_n none X (truncf .bf16 (sitofp .f32 (extsi 32 cs natLt_8_32)) bitsLt_bf16_f32))) (broadcastInDim S1536x16384 ![0, 1] bcast_S1x16384_S1536x16384_0_1 (broadcastInDim S1x16384 ![1] bcast_S16384_S1x16384_1 lq)))

/-- The logits of the tokens' own rows, as the reference writes them. -/
def zT : FVec Ideal S1536 .f32 := subf (mulf sct (Host.dotGeneral dot_S1536x1280_S1536x1280_S1536_1_1_n_n_0_0 none X (truncf .bf16 (sitofp .f32 (extsi 32 ct natLt_8_32)) bitsLt_bf16_f32))) lqt

/-- The logarithm of a sum of exponentials, as the reference writes it. -/
def lgS (zS : FVec Ideal S1536x16384 .f32) : FVec Ideal S1536 .f32 := (Host.log (Host.reduceAdd (Host.exp zS) (constant S_ .f32 0x00000000#32) reducesTo_S1536x16384_S1536_d1 h_S_))

/-- The reference's log-sum-exp of two vectors. -/
def lseV (zT L : FVec Ideal S1536 .f32) : FVec Ideal S1536 .f32 := (select (cmpf .une (subf zT L) (subf zT L)) (addf zT L) (addf (maximumf zT L) (Host.log1p (Host.exp (Host.negf (Host.absf (subf zT L)))))))

/-- The gradient of the tokens' own logits, as the reference writes it. -/
def dzV (zT lse : FVec Ideal S1536 .f32) : FVec Ideal S1536 .f32 := mulf g (subf (Host.exp (subf zT lse)) (broadcastInDim S1536 ![] bcast_S_S1536 (constant S_ .f32 0x3F800000#32)))

/-- The reference's third result, from its logits and log-sum-exp. -/
def o2 (zT lse : FVec Ideal S1536 .f32) : FVec Ideal S1536x1280 .f32 := mulf (broadcastInDim S1536x1280 ![0, 1] bcast_S1536x1_S1536x1280_0_1 (broadcastInDim S1536x1 ![0] bcast_S1536_S1536x1_0 (mulf (dzV g zT lse) sct))) (sitofp .f32 (extsi 32 ct natLt_8_32))

/-- The reference's fourth result, from its logits and log-sum-exp. -/
def o3 (zT lse : FVec Ideal S1536 .f32) : FVec Ideal S1536x1280 .f32 := mulf (broadcastInDim S1536x1280 ![0, 1] bcast_S1536x1_S1536x1280_0_1 (broadcastInDim S1536x1 ![0] bcast_S1536_S1536x1_0 (dzV g zT lse))) (extf .f32 X bitsLt_bf16_f32)

section
variable (m : (ℓ : Loc nD τ sig) → Buf (Elt Ideal) ℓ) (c : Dev nD)
abbrev a0 : FVec Ideal S12x128x1280 .bf16 := m ((c.tc : Thread nD τ).loc main_arg0)
abbrev a1 : IVec S50257x1280 8 := m ((c.tc : Thread nD τ).loc main_arg1)
abbrev a2 : FVec Ideal S50257 .f32 := m ((c.tc : Thread nD τ).loc main_arg2)
abbrev a3 : FVec Ideal S50257 .f32 := m ((c.tc : Thread nD τ).loc main_arg3)
abbrev a4 : IVec S16384 32 := m ((c.tc : Thread nD τ).loc main_arg4)
abbrev a5 : IVec S12x128 32 := m ((c.tc : Thread nD τ).loc main_arg5)
abbrev a6 : FVec Ideal S12x128 .f32 := m ((c.tc : Thread nD τ).loc main_arg6)

/-- The tokens' own logits, from the arguments. -/
def own : FVec Ideal S1536 .f32 := zT (hidT (a0 m c)) (parT (a2 m c) (tgtT (a5 m c))) (parT (a3 m c) (tgtT (a5 m c))) (codT (a1 m c) (tgtT (a5 m c)))

/-- The log-sum-exp, from the arguments. -/
def tot : FVec Ideal S1536 .f32 := lseV (own m c) (lgS (zS (parS (a2 m c) (a4 m c)) (parS (a3 m c) (a4 m c)) (a4 m c) (codS (a1 m c) (a4 m c)) (hidT (a0 m c)) (tgtT (a5 m c))))

theorem out0_eq : res_out0 m c = shapeCast S12x128 (subf (tot m c) (own m c)) shapeCasts_S1536_S12x128 := rfl
theorem out1_eq : res_out1 m c = tot m c := rfl
theorem out2_eq : res_out2 m c = o2 (parT (a2 m c) (tgtT (a5 m c))) (glsT (a6 m c)) (codT (a1 m c) (tgtT (a5 m c))) (own m c) (tot m c) := rfl
theorem out3_eq : res_out3 m c = o3 (hidT (a0 m c)) (glsT (a6 m c)) (own m c) (tot m c) := rfl
end

/-- Widening an integer code to 32 bits before it becomes a float changes nothing. -/
theorem sitofp_code (c : BitVec 8) : FloatOps.sitofp (F := Ideal) .f32 (BitVec.signExtend 32 c) = ((c.toInt : ℝ) : EReal) := by
  show (((BitVec.signExtend 32 c).toInt : ℝ) : EReal) = _
  rw [BitVec.toInt_signExtend_of_le (by decide)]

/-- The mask that the reference writes is minus infinity. -/
theorem mask_at (i) : id (constant (F := Ideal) S_ .f32 0xFF800000#32) i = (⊥ : EReal) := by
  show Ideal.ieee 8 23 (0xFF800000#32) = ⊥
  unfold Ideal.ieee
  simp

/-- Two identifiers are equal as floats just when they are equal. -/
theorem id_eq (a b : BitVec 32) : ((a.toInt : ℝ) : EReal) = ((b.toInt : ℝ) : EReal) ↔ b = a := by
  rw [EReal.coe_eq_coe_iff, Int.cast_inj, BitVec.toInt_inj, eq_comm]

section
variable {sc lq : FVec Ideal S16384 .f32} {ids : IVec S16384 32} {cs : IVec S16384x1280 8} {X : FVec Ideal S1536x1280 .bf16} {tgt : IVec S1536 32}
    {sct lqt g : FVec Ideal S1536 .f32} {ct : IVec S1536x1280 8}
    {A : FVec Ideal ⟨2, ![8, 16384]⟩ .f32} {T K : FVec Ideal ⟨2, ![8, 1536]⟩ .f32} (h : Prep A T K sc lq ids tgt sct lqt g)
include h

theorem zS_at (t : Fin 1536) (n : Fin 16384) : zS sc lq ids cs X tgt (ix2 t n) = zAll A cs X T n t := by
  unfold zAll
  rw [h.scale, h.logq, h.ident, h.target]
  simp only [id_eq]
  pointwise [zS]
  simp only [sitofp_code]
  rw [mask_at, mul_comm (sc (ix1 n))]
  simp only [mul_comm (X _)]
  exact if_congr IntOp.cmpi_eq rfl rfl

theorem zT_at (t : Fin 1536) : zT X sct lqt ct (ix1 t) = zTok X K ct t := by
  unfold zTok
  rw [h.scaleT, h.logqT]
  pointwise [zT]
  simp only [sitofp_code]
end

theorem lgS_at (z : FVec Ideal S1536x16384 .f32) (t : Fin 1536) : lgS z (ix1 t) = Ideal.log (∑ n : Fin 16384, Ideal.exp (z (ix2 t n))) := by
  pointwise [lgS]

theorem lseV_at (a b : FVec Ideal S1536 .f32) (t : Fin 1536) : lseV a b (ix1 t) = addExp (a (ix1 t)) (b (ix1 t)) := by
  pointwise [lseV]
  exact logaddexp_eq _ _

theorem dzV_at (a b : FVec Ideal S1536 .f32) (t : Fin 1536) : dzV g a b (ix1 t) = g (ix1 t) * (Ideal.exp (a (ix1 t) - b (ix1 t)) - 1) := by
  pointwise [dzV]

theorem o2_at (a b : FVec Ideal S1536 .f32) (t : Fin 1536) (d : Fin 1280) : o2 sct g ct a b (ix2 t d) = dzV g a b (ix1 t) * sct (ix1 t) * ((ct (ix2 t d)).toInt : ℝ) := by
  pointwise [o2]
  simp only [sitofp_code]

theorem o3_at (a b : FVec Ideal S1536 .f32) (t : Fin 1536) (d : Fin 1280) : o3 X g a b (ix2 t d) = dzV g a b (ix1 t) * X (ix2 t d) := by
  pointwise [o3]

section
variable (m : (ℓ : Loc nD τ sig) → Buf (Elt Ideal) ℓ) (c : Dev nD)
    {A : FVec Ideal ⟨2, ![8, 16384]⟩ .f32} {T K : FVec Ideal ⟨2, ![8, 1536]⟩ .f32}
    (h : Prep A T K (parS (a2 m c) (a4 m c)) (parS (a3 m c) (a4 m c)) (a4 m c) (tgtT (a5 m c)) (parT (a2 m c) (tgtT (a5 m c))) (parT (a3 m c) (tgtT (a5 m c))) (glsT (a6 m c)))
include h

theorem own_at (t : Fin 1536) : own m c (ix1 t) = zTok (hidT (a0 m c)) K (codT (a1 m c) (tgtT (a5 m c))) t := zT_at h t

theorem tot_at (t : Fin 1536) : tot m c (ix1 t) = lse A (codS (a1 m c) (a4 m c)) (hidT (a0 m c)) T K (codT (a1 m c) (tgtT (a5 m c))) t := by
  unfold lse tot
  rw [lseV_at, lgS_at, own_at m c h]
  simp only [zS_at h]

/-- The reference's first result. -/
theorem out0 : res_out0 m c = shapeCast S12x128 (lossAll A (codS (a1 m c) (a4 m c)) (hidT (a0 m c)) T K (codT (a1 m c) (tgtT (a5 m c)))) shapeCasts_S1536_S12x128 := by
  rw [out0_eq]
  congr 1
  funext y
  obtain ⟨t, rfl⟩ : ∃ t : Fin 1536, y = ix1 t := ⟨y 0, by funext a; fin_cases a; rfl⟩
  show tot m c (ix1 t) - own m c (ix1 t) = _
  rw [tot_at m c h, own_at m c h]
  rfl

/-- The reference's second result. -/
theorem out1 : res_out1 m c = lseAll A (codS (a1 m c) (a4 m c)) (hidT (a0 m c)) T K (codT (a1 m c) (tgtT (a5 m c))) := by
  rw [out1_eq]
  funext y
  obtain ⟨t, rfl⟩ : ∃ t : Fin 1536, y = ix1 t := ⟨y 0, by funext a; fin_cases a; rfl⟩
  exact tot_at m c h t

/-- The reference's third result. -/
theorem out2 : res_out2 m c = dhTok A (codS (a1 m c) (a4 m c)) (hidT (a0 m c)) T K (codT (a1 m c) (tgtT (a5 m c))) := by
  rw [out2_eq]
  funext y
  obtain ⟨t, d, rfl⟩ : ∃ (t : Fin 1536) (d : Fin 1280), y = ix2 t d := ⟨y 0, y 1, by funext a; fin_cases a <;> rfl⟩
  refine (o2_at _ _ _ _ _ t d).trans ?_
  rw [dzV_at, tot_at m c h, own_at m c h, ← h.grad, ← h.scaleT]
  rfl

/-- The reference's fourth result. -/
theorem out3 : res_out3 m c = dwTok A (codS (a1 m c) (a4 m c)) (hidT (a0 m c)) T K (codT (a1 m c) (tgtT (a5 m c))) := by
  rw [out3_eq]
  funext y
  obtain ⟨t, d, rfl⟩ : ∃ (t : Fin 1536) (d : Fin 1280), y = ix2 t d := ⟨y 0, y 1, by funext a; fin_cases a <;> rfl⟩
  refine (o3_at _ _ _ _ t d).trans ?_
  rw [dzV_at, tot_at m c h, own_at m c h, ← h.grad]
  rfl
end

end Cert.FwdRefIdeal.Ref
-- ==== Proof.FwdAlg.lean ====
module

public import proofs.«01_k».proof.Defs
public import proofs.«01_k».proof.Proof.FwdRun
public import proofs.«01_k».proof.Proof.FwdEnd
public import proofs.«01_k».proof.Proof.FwdFin
public import proofs.«01_k».proof.Proof.FwdRef

@[expose] public section

set_option maxRecDepth 16384

noncomputable section

namespace Cert.Proof

open Idealize.ShloMosaic Idealize.SL.Sem Cert.FwdMath Cert.FwdIdeal.Val

/-- No logit of the gathered rows is plus infinity when the arguments are finite. -/
theorem gathered_ne_top (m : (ℓ : Loc Cert.FwdIdeal.nD Cert.FwdIdeal.τ Cert.FwdIdeal.sig) → Buf (Elt Ideal) ℓ) (c : Dev Cert.FwdIdeal.nD)
    (h : Cert.Pre_finite.fn (F := Ideal) (p0 m c) (p1 m c) (p2 m c) (p3 m c) (p4 m c) (p5 m c) (p6 m c) = fun _ => 1#1) (n : Fin 16384) (t : Fin 1536) :
    zAll (b0 m c) (b1 m c) (b2 m c) (b3 m c) n t ≠ ⊤ :=
  Cert.FwdMath.logit_ne_top _ _ _ _
    (fun n => by rw [(prep m c).scale]; exact Cert.Pre_finite.scale_real _ _ _ _ _ _ _ h _)
    (fun n => by rw [(prep m c).logq]; exact Cert.Pre_finite.logq_real _ _ _ _ _ _ _ h _)
    (fun y => Cert.Pre_finite.hid_real _ _ _ _ _ _ _ h _) n t

/-- The two calls among their host code and the plain reference compute the same four arrays over the extended reals. -/
theorem algebraic_fwd : Cert.algebraic_FwdIdeal_FwdRefIdeal_pre_finite (hFwdIdeal := Cert.FwdIdeal.Gen.facts) (hFwdRefIdeal := Cert.FwdRefIdeal.Gen.facts)
    (hPre_finite := Cert.Pre_finite.facts) := by
  intro m g m' g' hpre hargs
  have hfin (c : Dev Cert.FwdIdeal.nD) := gathered_ne_top m c (hpre c)
  refine ⟨fun c => shapeCast _ (lossAll (b0 m c) (b1 m c) (b2 m c) (b3 m c) (b4 m c) (b5 m c)) Cert.FwdIdeal.Gen.shapeCasts_S1536_S12x128, fun c => lseAll (b0 m c) (b1 m c) (b2 m c) (b3 m c) (b4 m c) (b5 m c),
    fun c => dhTok (b0 m c) (b1 m c) (b2 m c) (b3 m c) (b4 m c) (b5 m c), fun c => dwTok (b0 m c) (b1 m c) (b2 m c) (b3 m c) (b4 m c) (b5 m c), ?_, ?_⟩
  · refine (θ_run (Cert.FwdIdeal.defs (F := Ideal)) _ _).mono (fun r h c => ?_) (Cert.FwdIdeal.Val.run m g)
    obtain ⟨h1, h2, h3, h4, h⟩ := h c
    exact ⟨h1.trans (ret0 m g c (hfin c)), h2.trans (ret1 m g c (hfin c)), h3.trans (ret2 m g c (hfin c)), h4.trans (ret3 m g c (hfin c)), h⟩
  refine (θ_run (Cert.FwdRefIdeal.defs (F := Ideal)) _ _).mono (fun r h c => ?_) (Cert.FwdRefIdeal.Value.run (F := Ideal) m' g')
  obtain ⟨h1, h2, h3, h4, h⟩ := h c
  obtain ⟨e0, e1, e2, e3, e4, e5, e6⟩ := hargs c
  have hp : Prep (b0 m c) (b3 m c) (b4 m c) (parS (Cert.FwdRefIdeal.Ref.a2 m' c) (Cert.FwdRefIdeal.Ref.a4 m' c)) (parS (Cert.FwdRefIdeal.Ref.a3 m' c) (Cert.FwdRefIdeal.Ref.a4 m' c))
      (Cert.FwdRefIdeal.Ref.a4 m' c) (tgtT (Cert.FwdRefIdeal.Ref.a5 m' c)) (parT (Cert.FwdRefIdeal.Ref.a2 m' c) (tgtT (Cert.FwdRefIdeal.Ref.a5 m' c)))
      (parT (Cert.FwdRefIdeal.Ref.a3 m' c) (tgtT (Cert.FwdRefIdeal.Ref.a5 m' c))) (glsT (Cert.FwdRefIdeal.Ref.a6 m' c)) := by
    unfold Cert.FwdRefIdeal.Ref.a2 Cert.FwdRefIdeal.Ref.a3 Cert.FwdRefIdeal.Ref.a4 Cert.FwdRefIdeal.Ref.a5 Cert.FwdRefIdeal.Ref.a6
    rw [e2, e3, e4, e5, e6]
    exact prep m c
  refine ⟨h1.trans ((Cert.FwdRefIdeal.Ref.out0 m' c hp).trans ?_), h2.trans ((Cert.FwdRefIdeal.Ref.out1 m' c hp).trans ?_),
    h3.trans ((Cert.FwdRefIdeal.Ref.out2 m' c hp).trans ?_), h4.trans ((Cert.FwdRefIdeal.Ref.out3 m' c hp).trans ?_), h⟩ <;>
  · unfold Cert.FwdRefIdeal.Ref.a0 Cert.FwdRefIdeal.Ref.a1 Cert.FwdRefIdeal.Ref.a4 Cert.FwdRefIdeal.Ref.a5
    rw [e0, e1, e4, e5]
    rfl

end Cert.Proof
-- ==== Proof.lean ====
module

public import proofs.«01_k».proof.Defs
public import proofs.«01_k».proof.Proof.Gen.Grad
public import proofs.«01_k».proof.Proof.Gen.Grad.Skeleton
public import proofs.«01_k».proof.Proof.Gen.Grad.Launch
public import proofs.«01_k».proof.Proof.Gen.Grad.Points
public import proofs.«01_k».proof.Proof.Gen.Grad.Frame
public import proofs.«01_k».proof.Proof.Gen.GradIdeal
public import proofs.«01_k».proof.Proof.Gen.GradIdeal.Skeleton
public import proofs.«01_k».proof.Proof.Gen.GradIdeal.Launch
public import proofs.«01_k».proof.Proof.Gen.GradIdeal.Points
public import proofs.«01_k».proof.Proof.Gen.GradIdeal.Frame
public import proofs.«01_k».proof.Proof.Gen.GradIdeal.Value
public import proofs.«01_k».proof.Proof.Gen.RefIdeal
public import proofs.«01_k».proof.Proof.Gen.RefIdeal.Run
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.FwdRefIdeal.Run
public import proofs.«01_k».proof.Proof.GradAlg
public import proofs.«01_k».proof.Proof.FwdAlg
public import Idealize.ShloMosaic.Adequacy
public import Idealize.ShloMosaic.Init
public import Idealize.ShloMosaic.Lib.Quiescent

@[expose] public section

noncomputable section

namespace Cert.Proof

open Idealize.ShloMosaic Idealize.SL.Sem Cert.Grad

theorem claim : Cert.Claim := ⟨Cert.Grad.Gen.facts, Cert.GradIdeal.Gen.facts, Cert.RefIdeal.Gen.facts, Cert.Fwd.Gen.facts, Cert.FwdIdeal.Gen.facts, Cert.FwdRefIdeal.Gen.facts, Cert.Pre_finite.facts, by
  exact ⟨fun m g _ => Cert.Grad.Gen.frame m g, fun m g _ => Cert.GradIdeal.Gen.frame m g,
    fun m g _ => (θ_run (Cert.RefIdeal.defs (F := Ideal)) _ _).mono (fun _ h => ⟨fun c => (h c).2.2, sem_eq_zero_of_no_sems (by decide) _⟩)
      (Cert.RefIdeal.Value.run (F := Ideal) m g),
    fun m g _ => Cert.Fwd.Gen.frame m g, fun m g _ => Cert.FwdIdeal.Gen.frame m g, fun m g _ => Cert.FwdIdeal.Gen.frame m g,
    fun m g _ => (θ_run (Cert.FwdRefIdeal.defs (F := Ideal)) _ _).mono (fun _ h => ⟨fun c => (h c).2.2.2.2, sem_eq_zero_of_no_sems (by decide) _⟩)
      (Cert.FwdRefIdeal.Value.run (F := Ideal) m g),
    fun m g _ => (θ_run (Cert.FwdRefIdeal.defs (F := Ideal)) _ _).mono (fun _ h => ⟨fun c => (h c).2.2.2.2, sem_eq_zero_of_no_sems (by decide) _⟩)
      (Cert.FwdRefIdeal.Value.run (F := Ideal) m g),
    trivial, algebraic, IdealRules.named_const.statement _ _ _ _ _ rfl, algebraic_fwd⟩⟩

end Cert.Proof

end
